-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S80x204x6144 : Shape := ⟨3, ![80, 204, 6144]⟩
abbrev S80x204x48 : Shape := ⟨3, ![80, 204, 48]⟩
abbrev S80 : Shape := ⟨1, ![80]⟩
abbrev S80x204 : Shape := ⟨2, ![80, 204]⟩
abbrev S80x768x6144 : Shape := ⟨3, ![80, 768, 6144]⟩
abbrev S80x6x48 : Shape := ⟨3, ![80, 6, 48]⟩
abbrev S80x6144x384 : Shape := ⟨3, ![80, 6144, 384]⟩
abbrev S80x48x3 : Shape := ⟨3, ![80, 48, 3]⟩
abbrev S80x204x1 : Shape := ⟨3, ![80, 204, 1]⟩
abbrev S80x288 : Shape := ⟨2, ![80, 288]⟩
abbrev S80x144 : Shape := ⟨2, ![80, 144]⟩
abbrev S1x204x6144 : Shape := ⟨3, ![1, 204, 6144]⟩
abbrev S1x204x48 : Shape := ⟨3, ![1, 204, 48]⟩
abbrev S1x204x1 : Shape := ⟨3, ![1, 204, 1]⟩
abbrev S1x768x6144 : Shape := ⟨3, ![1, 768, 6144]⟩
abbrev S1x6144x384 : Shape := ⟨3, ![1, 6144, 384]⟩
abbrev S204x128 : Shape := ⟨2, ![204, 128]⟩
abbrev S1x1 : Shape := ⟨2, ![1, 1]⟩
abbrev S1x128x128 : Shape := ⟨3, ![1, 128, 128]⟩
abbrev S128x128 : Shape := ⟨2, ![128, 128]⟩
abbrev S1x204x128 : Shape := ⟨3, ![1, 204, 128]⟩
abbrev S204x1 : Shape := ⟨2, ![204, 1]⟩
abbrev S204x256 : Shape := ⟨2, ![204, 256]⟩
abbrev S128x256 : Shape := ⟨2, ![128, 256]⟩
abbrev S204 : Shape := ⟨1, ![204]⟩
abbrev S204x246 : Shape := ⟨2, ![204, 246]⟩
abbrev S204x384 : Shape := ⟨2, ![204, 384]⟩
abbrev S1 : Shape := ⟨1, ![1]⟩
abbrev S128x384 : Shape := ⟨2, ![128, 384]⟩

abbrev nBuf : Space → Nat
  | .hbm => 11
  | .vmem => 12
  | .smem => 3
  | _ => 0

abbrev bufTy : (tb : Table) → Fin (tcTables nBuf tb) → BufTy
  | .hbm, ⟨0, _⟩ => ⟨S80x204x6144, .fp8e4m3⟩
  | .hbm, ⟨1, _⟩ => ⟨S80x204x48, .f32⟩
  | .hbm, ⟨2, _⟩ => ⟨S80x204, .f32⟩
  | .hbm, ⟨3, _⟩ => ⟨S80x768x6144, .fp8e4m3⟩
  | .hbm, ⟨4, _⟩ => ⟨S80x6x48, .f32⟩
  | .hbm, ⟨5, _⟩ => ⟨S80x6144x384, .fp8e4m3⟩
  | .hbm, ⟨6, _⟩ => ⟨S80x48x3, .f32⟩
  | .hbm, ⟨7, _⟩ => ⟨S80x204x1, .f32⟩
  | .hbm, ⟨8, _⟩ => ⟨S80x288, .f32⟩
  | .hbm, ⟨9, _⟩ => ⟨S80x144, .f32⟩
  | .hbm, ⟨10, _⟩ => ⟨S80x204x6144, .bf16⟩
  | .local _ .vmem, ⟨0, _⟩ => ⟨S1x204x6144, .fp8e4m3⟩
  | .local _ .vmem, ⟨1, _⟩ => ⟨S1x204x6144, .fp8e4m3⟩
  | .local _ .vmem, ⟨2, _⟩ => ⟨S1x204x48, .f32⟩
  | .local _ .vmem, ⟨3, _⟩ => ⟨S1x204x48, .f32⟩
  | .local _ .vmem, ⟨4, _⟩ => ⟨S1x204x1, .f32⟩
  | .local _ .vmem, ⟨5, _⟩ => ⟨S1x204x1, .f32⟩
  | .local _ .vmem, ⟨6, _⟩ => ⟨S1x768x6144, .fp8e4m3⟩
  | .local _ .vmem, ⟨7, _⟩ => ⟨S1x768x6144, .fp8e4m3⟩
  | .local _ .vmem, ⟨8, _⟩ => ⟨S1x6144x384, .fp8e4m3⟩
  | .local _ .vmem, ⟨9, _⟩ => ⟨S1x6144x384, .fp8e4m3⟩
  | .local _ .vmem, ⟨10, _⟩ => ⟨S1x204x6144, .bf16⟩
  | .local _ .vmem, ⟨11, _⟩ => ⟨S1x204x6144, .bf16⟩
  | .local _ .smem, ⟨0, _⟩ => ⟨S80, .i32⟩
  | .local _ .smem, ⟨1, _⟩ => ⟨S80x288, .f32⟩
  | .local _ .smem, ⟨2, _⟩ => ⟨S80x144, .f32⟩
  | _, _ => ⟨S80x204x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg4_0 : Ref sig .tc := ⟨.smem, 1, rfl⟩
abbrev cc0_stg6_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![80], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v1 : Index := Scalar.indexCast arg0
  let c0 : Index := 0#32
  ![v1.toNat, 0]
def k0_off2 (i : grid0.Coords) : Fin 2 → Nat :=
  let arg0 : BitVec 32 := BitVec.ofNat 32 (i 0).val
  let v17 : Index := Scalar.indexCast arg0
  let c1 : Index := 1#32
  ![v17.toNat, 1]
def k0_off3 (i : grid0.Coords) : Fin 2 → Nat :=
  let arg0 : BitVec 32 := BitVec.ofNat 32 (i 0).val
  let v37 : Index := Scalar.indexCast arg0
  let c2 : Index := 2#32
  ![v37.toNat, 2]
def k0_off4 (i : grid0.Coords) : Fin 2 → Nat :=
  let arg0 : BitVec 32 := BitVec.ofNat 32 (i 0).val
  let v53 : Index := Scalar.indexCast arg0
  let c3 : Index := 3#32
  ![v53.toNat, 3]
def k0_off5 (i : grid0.Coords) : Fin 2 → Nat :=
  let arg0 : BitVec 32 := BitVec.ofNat 32 (i 0).val
  let v73 : Index := Scalar.indexCast arg0
  let c4 : Index := 4#32
  ![v73.toNat, 4]
def k0_off6 (i : grid0.Coords) : Fin 2 → Nat :=
  let arg0 : BitVec 32 := BitVec.ofNat 32 (i 0).val
  let v89 : Index := Scalar.indexCast arg0
  let c5 : Index := 5#32
  ![v89.toNat, 5]
def k0_off7 (i : grid0.Coords) : Fin 2 → Nat :=
  let arg0 : BitVec 32 := BitVec.ofNat 32 (i 0).val
  let v109 : Index := Scalar.indexCast arg0
  let c6 : Index := 6#32
  ![v109.toNat, 6]
def k0_off8 (i : grid0.Coords) : Fin 2 → Nat :=
  let arg0 : BitVec 32 := BitVec.ofNat 32 (i 0).val
  let v125 : Index := Scalar.indexCast arg0
  let c7 : Index := 7#32
  ![v125.toNat, 7]
def k0_off9 (i : grid0.Coords) : Fin 2 → Nat :=
  let arg0 : BitVec 32 := BitVec.ofNat 32 (i 0).val
  let v145 : Index := Scalar.indexCast arg0
  let c8 : Index := 8#32
  ![v145.toNat, 8]
def k0_off10 (i : grid0.Coords) : Fin 2 → Nat :=
  let arg0 : BitVec 32 := BitVec.ofNat 32 (i 0).val
  let v161 : Index := Scalar.indexCast arg0
  let c9 : Index := 9#32
  ![v161.toNat, 9]
def k0_off11 (i : grid0.Coords) : Fin 2 → Nat :=
  let arg0 : BitVec 32 := BitVec.ofNat 32 (i 0).val
  let v181 : Index := Scalar.indexCast arg0
  let c10 : Index := 10#32
  ![v181.toNat, 10]
def k0_off12 (i : grid0.Coords) : Fin 2 → Nat :=
  let arg0 : BitVec 32 := BitVec.ofNat 32 (i 0).val
  let v197 : Index := Scalar.indexCast arg0
  let c11 : Index := 11#32
  ![v197.toNat, 11]
def k0_off13 (i : grid0.Coords) : Fin 2 → Nat :=
  let arg0 : BitVec 32 := BitVec.ofNat 32 (i 0).val
  let v217 : Index := Scalar.indexCast arg0
  let c12 : Index := 12#32
  ![v217.toNat, 12]
def k0_off14 (i : grid0.Coords) : Fin 2 → Nat :=
  let arg0 : BitVec 32 := BitVec.ofNat 32 (i 0).val
  let v233 : Index := Scalar.indexCast arg0
  let c13 : Index := 13#32
  ![v233.toNat, 13]
def k0_off15 (i : grid0.Coords) : Fin 2 → Nat :=
  let arg0 : BitVec 32 := BitVec.ofNat 32 (i 0).val
  let v253 : Index := Scalar.indexCast arg0
  let c14 : Index := 14#32
  ![v253.toNat, 14]
def k0_off16 (i : grid0.Coords) : Fin 2 → Nat :=
  let arg0 : BitVec 32 := BitVec.ofNat 32 (i 0).val
  let v269 : Index := Scalar.indexCast arg0
  let c15 : Index := 15#32
  ![v269.toNat, 15]
def k0_off17 (i : grid0.Coords) : Fin 2 → Nat :=
  let arg0 : BitVec 32 := BitVec.ofNat 32 (i 0).val
  let v289 : Index := Scalar.indexCast arg0
  let c16 : Index := 16#32
  ![v289.toNat, 16]
def k0_off18 (i : grid0.Coords) : Fin 2 → Nat :=
  let arg0 : BitVec 32 := BitVec.ofNat 32 (i 0).val
  let v305 : Index := Scalar.indexCast arg0
  let c17 : Index := 17#32
  ![v305.toNat, 17]
def k0_off19 (i : grid0.Coords) : Fin 2 → Nat :=
  let arg0 : BitVec 32 := BitVec.ofNat 32 (i 0).val
  let v325 : Index := Scalar.indexCast arg0
  let c18 : Index := 18#32
  ![v325.toNat, 18]
def k0_off20 (i : grid0.Coords) : Fin 2 → Nat :=
  let arg0 : BitVec 32 := BitVec.ofNat 32 (i 0).val
  let v341 : Index := Scalar.indexCast arg0
  let c19 : Index := 19#32
  ![v341.toNat, 19]
def k0_off21 (i : grid0.Coords) : Fin 2 → Nat :=
  let arg0 : BitVec 32 := BitVec.ofNat 32 (i 0).val
  let v361 : Index := Scalar.indexCast arg0
  let c20 : Index := 20#32
  ![v361.toNat, 20]
def k0_off22 (i : grid0.Coords) : Fin 2 → Nat :=
  let arg0 : BitVec 32 := BitVec.ofNat 32 (i 0).val
  let v377 : Index := Scalar.indexCast arg0
  let c21 : Index := 21#32
  ![v377.toNat, 21]
def k0_off23 (i : grid0.Coords) : Fin 2 → Nat :=
  let arg0 : BitVec 32 := BitVec.ofNat 32 (i 0).val
  let v397 : Index := Scalar.indexCast arg0
  let c22 : Index := 22#32
  ![v397.toNat, 22]
def k0_off24 (i : grid0.Coords) : Fin 2 → Nat :=
  let arg0 : BitVec 32 := BitVec.ofNat 32 (i 0).val
  let v413 : Index := Scalar.indexCast arg0
  let c23 : Index := 23#32
  ![v413.toNat, 23]
def k0_off25 (i : grid0.Coords) : Fin 2 → Nat :=
  let arg0 : BitVec 32 := BitVec.ofNat 32 (i 0).val
  let v433 : Index := Scalar.indexCast arg0
  let c24 : Index := 24#32
  ![v433.toNat, 24]
def k0_off26 (i : grid0.Coords) : Fin 2 → Nat :=
  let arg0 : BitVec 32 := BitVec.ofNat 32 (i 0).val
  let v449 : Index := Scalar.indexCast arg0
  let c25 : Index := 25#32
  ![v449.toNat, 25]
def k0_off27 (i : grid0.Coords) : Fin 2 → Nat :=
  let arg0 : BitVec 32 := BitVec.ofNat 32 (i 0).val
  let v469 : Index := Scalar.indexCast arg0
  let c26 : Index := 26#32
  ![v469.toNat, 26]
def k0_off28 (i : grid0.Coords) : Fin 2 → Nat :=
  let arg0 : BitVec 32 := BitVec.ofNat 32 (i 0).val
  let v485 : Index := Scalar.indexCast arg0
  let c27 : Index := 27#32
  ![v485.toNat, 27]
def k0_off29 (i : grid0.Coords) : Fin 2 → Nat :=
  let arg0 : BitVec 32 := BitVec.ofNat 32 (i 0).val
  let v505 : Index := Scalar.indexCast arg0
  let c28 : Index := 28#32
  ![v505.toNat, 28]
def k0_off30 (i : grid0.Coords) : Fin 2 → Nat :=
  let arg0 : BitVec 32 := BitVec.ofNat 32 (i 0).val
  let v521 : Index := Scalar.indexCast arg0
  let c29 : Index := 29#32
  ![v521.toNat, 29]
def k0_off31 (i : grid0.Coords) : Fin 2 → Nat :=
  let arg0 : BitVec 32 := BitVec.ofNat 32 (i 0).val
  let v541 : Index := Scalar.indexCast arg0
  let c30 : Index := 30#32
  ![v541.toNat, 30]
def k0_off32 (i : grid0.Coords) : Fin 2 → Nat :=
  let arg0 : BitVec 32 := BitVec.ofNat 32 (i 0).val
  let v557 : Index := Scalar.indexCast arg0
  let c31 : Index := 31#32
  ![v557.toNat, 31]
def k0_off33 (i : grid0.Coords) : Fin 2 → Nat :=
  let arg0 : BitVec 32 := BitVec.ofNat 32 (i 0).val
  let v577 : Index := Scalar.indexCast arg0
  let c32 : Index := 32#32
  ![v577.toNat, 32]
def k0_off34 (i : grid0.Coords) : Fin 2 → Nat :=
  let arg0 : BitVec 32 := BitVec.ofNat 32 (i 0).val
  let v593 : Index := Scalar.indexCast arg0
  let c33 : Index := 33#32
  ![v593.toNat, 33]
def k0_off35 (i : grid0.Coords) : Fin 2 → Nat :=
  let arg0 : BitVec 32 := BitVec.ofNat 32 (i 0).val
  let v613 : Index := Scalar.indexCast arg0
  let c34 : Index := 34#32
  ![v613.toNat, 34]
def k0_off36 (i : grid0.Coords) : Fin 2 → Nat :=
  let arg0 : BitVec 32 := BitVec.ofNat 32 (i 0).val
  let v629 : Index := Scalar.indexCast arg0
  let c35 : Index := 35#32
  ![v629.toNat, 35]
def k0_off37 (i : grid0.Coords) : Fin 2 → Nat :=
  let arg0 : BitVec 32 := BitVec.ofNat 32 (i 0).val
  let v649 : Index := Scalar.indexCast arg0
  let c36 : Index := 36#32
  ![v649.toNat, 36]
def k0_off38 (i : grid0.Coords) : Fin 2 → Nat :=
  let arg0 : BitVec 32 := BitVec.ofNat 32 (i 0).val
  let v665 : Index := Scalar.indexCast arg0
  let c37 : Index := 37#32
  ![v665.toNat, 37]
def k0_off39 (i : grid0.Coords) : Fin 2 → Nat :=
  let arg0 : BitVec 32 := BitVec.ofNat 32 (i 0).val
  let v685 : Index := Scalar.indexCast arg0
  let c38 : Index := 38#32
  ![v685.toNat, 38]
def k0_off40 (i : grid0.Coords) : Fin 2 → Nat :=
  let arg0 : BitVec 32 := BitVec.ofNat 32 (i 0).val
  let v701 : Index := Scalar.indexCast arg0
  let c39 : Index := 39#32
  ![v701.toNat, 39]
def k0_off41 (i : grid0.Coords) : Fin 2 → Nat :=
  let arg0 : BitVec 32 := BitVec.ofNat 32 (i 0).val
  let v721 : Index := Scalar.indexCast arg0
  let c40 : Index := 40#32
  ![v721.toNat, 40]
def k0_off42 (i : grid0.Coords) : Fin 2 → Nat :=
  let arg0 : BitVec 32 := BitVec.ofNat 32 (i 0).val
  let v737 : Index := Scalar.indexCast arg0
  let c41 : Index := 41#32
  ![v737.toNat, 41]
def k0_off43 (i : grid0.Coords) : Fin 2 → Nat :=
  let arg0 : BitVec 32 := BitVec.ofNat 32 (i 0).val
  let v757 : Index := Scalar.indexCast arg0
  let c42 : Index := 42#32
  ![v757.toNat, 42]
def k0_off44 (i : grid0.Coords) : Fin 2 → Nat :=
  let arg0 : BitVec 32 := BitVec.ofNat 32 (i 0).val
  let v773 : Index := Scalar.indexCast arg0
  let c43 : Index := 43#32
  ![v773.toNat, 43]
def k0_off45 (i : grid0.Coords) : Fin 2 → Nat :=
  let arg0 : BitVec 32 := BitVec.ofNat 32 (i 0).val
  let v793 : Index := Scalar.indexCast arg0
  let c44 : Index := 44#32
  ![v793.toNat, 44]
def k0_off46 (i : grid0.Coords) : Fin 2 → Nat :=
  let arg0 : BitVec 32 := BitVec.ofNat 32 (i 0).val
  let v809 : Index := Scalar.indexCast arg0
  let c45 : Index := 45#32
  ![v809.toNat, 45]
def k0_off47 (i : grid0.Coords) : Fin 2 → Nat :=
  let arg0 : BitVec 32 := BitVec.ofNat 32 (i 0).val
  let v829 : Index := Scalar.indexCast arg0
  let c46 : Index := 46#32
  ![v829.toNat, 46]
def k0_off48 (i : grid0.Coords) : Fin 2 → Nat :=
  let arg0 : BitVec 32 := BitVec.ofNat 32 (i 0).val
  let v845 : Index := Scalar.indexCast arg0
  let c47 : Index := 47#32
  ![v845.toNat, 47]
def k0_off49 (i : grid0.Coords) : Fin 2 → Nat :=
  let arg0 : BitVec 32 := BitVec.ofNat 32 (i 0).val
  let v866 : Index := Scalar.indexCast arg0
  let c48 : Index := 48#32
  ![v866.toNat, 48]
def k0_off50 (i : grid0.Coords) : Fin 2 → Nat :=
  let arg0 : BitVec 32 := BitVec.ofNat 32 (i 0).val
  let v882 : Index := Scalar.indexCast arg0
  let c49 : Index := 49#32
  ![v882.toNat, 49]
def k0_off51 (i : grid0.Coords) : Fin 2 → Nat :=
  let arg0 : BitVec 32 := BitVec.ofNat 32 (i 0).val
  let v902 : Index := Scalar.indexCast arg0
  let c50 : Index := 50#32
  ![v902.toNat, 50]
def k0_off52 (i : grid0.Coords) : Fin 2 → Nat :=
  let arg0 : BitVec 32 := BitVec.ofNat 32 (i 0).val
  let v918 : Index := Scalar.indexCast arg0
  let c51 : Index := 51#32
  ![v918.toNat, 51]
def k0_off53 (i : grid0.Coords) : Fin 2 → Nat :=
  let arg0 : BitVec 32 := BitVec.ofNat 32 (i 0).val
  let v938 : Index := Scalar.indexCast arg0
  let c52 : Index := 52#32
  ![v938.toNat, 52]
def k0_off54 (i : grid0.Coords) : Fin 2 → Nat :=
  let arg0 : BitVec 32 := BitVec.ofNat 32 (i 0).val
  let v954 : Index := Scalar.indexCast arg0
  let c53 : Index := 53#32
  ![v954.toNat, 53]
def k0_off55 (i : grid0.Coords) : Fin 2 → Nat :=
  let arg0 : BitVec 32 := BitVec.ofNat 32 (i 0).val
  let v974 : Index := Scalar.indexCast arg0
  let c54 : Index := 54#32
  ![v974.toNat, 54]
def k0_off56 (i : grid0.Coords) : Fin 2 → Nat :=
  let arg0 : BitVec 32 := BitVec.ofNat 32 (i 0).val
  let v990 : Index := Scalar.indexCast arg0
  let c55 : Index := 55#32
  ![v990.toNat, 55]
def k0_off57 (i : grid0.Coords) : Fin 2 → Nat :=
  let arg0 : BitVec 32 := BitVec.ofNat 32 (i 0).val
  let v1010 : Index := Scalar.indexCast arg0
  let c56 : Index := 56#32
  ![v1010.toNat, 56]
def k0_off58 (i : grid0.Coords) : Fin 2 → Nat :=
  let arg0 : BitVec 32 := BitVec.ofNat 32 (i 0).val
  let v1026 : Index := Scalar.indexCast arg0
  let c57 : Index := 57#32
  ![v1026.toNat, 57]
def k0_off59 (i : grid0.Coords) : Fin 2 → Nat :=
  let arg0 : BitVec 32 := BitVec.ofNat 32 (i 0).val
  let v1046 : Index := Scalar.indexCast arg0
  let c58 : Index := 58#32
  ![v1046.toNat, 58]
def k0_off60 (i : grid0.Coords) : Fin 2 → Nat :=
  let arg0 : BitVec 32 := BitVec.ofNat 32 (i 0).val
  let v1062 : Index := Scalar.indexCast arg0
  let c59 : Index := 59#32
  ![v1062.toNat, 59]
def k0_off61 (i : grid0.Coords) : Fin 2 → Nat :=
  let arg0 : BitVec 32 := BitVec.ofNat 32 (i 0).val
  let v1082 : Index := Scalar.indexCast arg0
  let c60 : Index := 60#32
  ![v1082.toNat, 60]
def k0_off62 (i : grid0.Coords) : Fin 2 → Nat :=
  let arg0 : BitVec 32 := BitVec.ofNat 32 (i 0).val
  let v1098 : Index := Scalar.indexCast arg0
  let c61 : Index := 61#32
  ![v1098.toNat, 61]
def k0_off63 (i : grid0.Coords) : Fin 2 → Nat :=
  let arg0 : BitVec 32 := BitVec.ofNat 32 (i 0).val
  let v1118 : Index := Scalar.indexCast arg0
  let c62 : Index := 62#32
  ![v1118.toNat, 62]
def k0_off64 (i : grid0.Coords) : Fin 2 → Nat :=
  let arg0 : BitVec 32 := BitVec.ofNat 32 (i 0).val
  let v1134 : Index := Scalar.indexCast arg0
  let c63 : Index := 63#32
  ![v1134.toNat, 63]
def k0_off65 (i : grid0.Coords) : Fin 2 → Nat :=
  let arg0 : BitVec 32 := BitVec.ofNat 32 (i 0).val
  let v1154 : Index := Scalar.indexCast arg0
  let c64 : Index := 64#32
  ![v1154.toNat, 64]
def k0_off66 (i : grid0.Coords) : Fin 2 → Nat :=
  let arg0 : BitVec 32 := BitVec.ofNat 32 (i 0).val
  let v1170 : Index := Scalar.indexCast arg0
  let c65 : Index := 65#32
  ![v1170.toNat, 65]
def k0_off67 (i : grid0.Coords) : Fin 2 → Nat :=
  let arg0 : BitVec 32 := BitVec.ofNat 32 (i 0).val
  let v1190 : Index := Scalar.indexCast arg0
  let c66 : Index := 66#32
  ![v1190.toNat, 66]
def k0_off68 (i : grid0.Coords) : Fin 2 → Nat :=
  let arg0 : BitVec 32 := BitVec.ofNat 32 (i 0).val
  let v1206 : Index := Scalar.indexCast arg0
  let c67 : Index := 67#32
  ![v1206.toNat, 67]
def k0_off69 (i : grid0.Coords) : Fin 2 → Nat :=
  let arg0 : BitVec 32 := BitVec.ofNat 32 (i 0).val
  let v1226 : Index := Scalar.indexCast arg0
  let c68 : Index := 68#32
  ![v1226.toNat, 68]
def k0_off70 (i : grid0.Coords) : Fin 2 → Nat :=
  let arg0 : BitVec 32 := BitVec.ofNat 32 (i 0).val
  let v1242 : Index := Scalar.indexCast arg0
  let c69 : Index := 69#32
  ![v1242.toNat, 69]
def k0_off71 (i : grid0.Coords) : Fin 2 → Nat :=
  let arg0 : BitVec 32 := BitVec.ofNat 32 (i 0).val
  let v1262 : Index := Scalar.indexCast arg0
  let c70 : Index := 70#32
  ![v1262.toNat, 70]
def k0_off72 (i : grid0.Coords) : Fin 2 → Nat :=
  let arg0 : BitVec 32 := BitVec.ofNat 32 (i 0).val
  let v1278 : Index := Scalar.indexCast arg0
  let c71 : Index := 71#32
  ![v1278.toNat, 71]
def k0_off73 (i : grid0.Coords) : Fin 2 → Nat :=
  let arg0 : BitVec 32 := BitVec.ofNat 32 (i 0).val
  let v1298 : Index := Scalar.indexCast arg0
  let c72 : Index := 72#32
  ![v1298.toNat, 72]
def k0_off74 (i : grid0.Coords) : Fin 2 → Nat :=
  let arg0 : BitVec 32 := BitVec.ofNat 32 (i 0).val
  let v1314 : Index := Scalar.indexCast arg0
  let c73 : Index := 73#32
  ![v1314.toNat, 73]
def k0_off75 (i : grid0.Coords) : Fin 2 → Nat :=
  let arg0 : BitVec 32 := BitVec.ofNat 32 (i 0).val
  let v1334 : Index := Scalar.indexCast arg0
  let c74 : Index := 74#32
  ![v1334.toNat, 74]
def k0_off76 (i : grid0.Coords) : Fin 2 → Nat :=
  let arg0 : BitVec 32 := BitVec.ofNat 32 (i 0).val
  let v1350 : Index := Scalar.indexCast arg0
  let c75 : Index := 75#32
  ![v1350.toNat, 75]
def k0_off77 (i : grid0.Coords) : Fin 2 → Nat :=
  let arg0 : BitVec 32 := BitVec.ofNat 32 (i 0).val
  let v1370 : Index := Scalar.indexCast arg0
  let c76 : Index := 76#32
  ![v1370.toNat, 76]
def k0_off78 (i : grid0.Coords) : Fin 2 → Nat :=
  let arg0 : BitVec 32 := BitVec.ofNat 32 (i 0).val
  let v1386 : Index := Scalar.indexCast arg0
  let c77 : Index := 77#32
  ![v1386.toNat, 77]
def k0_off79 (i : grid0.Coords) : Fin 2 → Nat :=
  let arg0 : BitVec 32 := BitVec.ofNat 32 (i 0).val
  let v1406 : Index := Scalar.indexCast arg0
  let c78 : Index := 78#32
  ![v1406.toNat, 78]
def k0_off80 (i : grid0.Coords) : Fin 2 → Nat :=
  let arg0 : BitVec 32 := BitVec.ofNat 32 (i 0).val
  let v1422 : Index := Scalar.indexCast arg0
  let c79 : Index := 79#32
  ![v1422.toNat, 79]
def k0_off81 (i : grid0.Coords) : Fin 2 → Nat :=
  let arg0 : BitVec 32 := BitVec.ofNat 32 (i 0).val
  let v1442 : Index := Scalar.indexCast arg0
  let c80 : Index := 80#32
  ![v1442.toNat, 80]
def k0_off82 (i : grid0.Coords) : Fin 2 → Nat :=
  let arg0 : BitVec 32 := BitVec.ofNat 32 (i 0).val
  let v1458 : Index := Scalar.indexCast arg0
  let c81 : Index := 81#32
  ![v1458.toNat, 81]
def k0_off83 (i : grid0.Coords) : Fin 2 → Nat :=
  let arg0 : BitVec 32 := BitVec.ofNat 32 (i 0).val
  let v1478 : Index := Scalar.indexCast arg0
  let c82 : Index := 82#32
  ![v1478.toNat, 82]
def k0_off84 (i : grid0.Coords) : Fin 2 → Nat :=
  let arg0 : BitVec 32 := BitVec.ofNat 32 (i 0).val
  let v1494 : Index := Scalar.indexCast arg0
  let c83 : Index := 83#32
  ![v1494.toNat, 83]
def k0_off85 (i : grid0.Coords) : Fin 2 → Nat :=
  let arg0 : BitVec 32 := BitVec.ofNat 32 (i 0).val
  let v1514 : Index := Scalar.indexCast arg0
  let c84 : Index := 84#32
  ![v1514.toNat, 84]
def k0_off86 (i : grid0.Coords) : Fin 2 → Nat :=
  let arg0 : BitVec 32 := BitVec.ofNat 32 (i 0).val
  let v1530 : Index := Scalar.indexCast arg0
  let c85 : Index := 85#32
  ![v1530.toNat, 85]
def k0_off87 (i : grid0.Coords) : Fin 2 → Nat :=
  let arg0 : BitVec 32 := BitVec.ofNat 32 (i 0).val
  let v1550 : Index := Scalar.indexCast arg0
  let c86 : Index := 86#32
  ![v1550.toNat, 86]
def k0_off88 (i : grid0.Coords) : Fin 2 → Nat :=
  let arg0 : BitVec 32 := BitVec.ofNat 32 (i 0).val
  let v1566 : Index := Scalar.indexCast arg0
  let c87 : Index := 87#32
  ![v1566.toNat, 87]
def k0_off89 (i : grid0.Coords) : Fin 2 → Nat :=
  let arg0 : BitVec 32 := BitVec.ofNat 32 (i 0).val
  let v1586 : Index := Scalar.indexCast arg0
  let c88 : Index := 88#32
  ![v1586.toNat, 88]
def k0_off90 (i : grid0.Coords) : Fin 2 → Nat :=
  let arg0 : BitVec 32 := BitVec.ofNat 32 (i 0).val
  let v1602 : Index := Scalar.indexCast arg0
  let c89 : Index := 89#32
  ![v1602.toNat, 89]
def k0_off91 (i : grid0.Coords) : Fin 2 → Nat :=
  let arg0 : BitVec 32 := BitVec.ofNat 32 (i 0).val
  let v1622 : Index := Scalar.indexCast arg0
  let c90 : Index := 90#32
  ![v1622.toNat, 90]
def k0_off92 (i : grid0.Coords) : Fin 2 → Nat :=
  let arg0 : BitVec 32 := BitVec.ofNat 32 (i 0).val
  let v1638 : Index := Scalar.indexCast arg0
  let c91 : Index := 91#32
  ![v1638.toNat, 91]
def k0_off93 (i : grid0.Coords) : Fin 2 → Nat :=
  let arg0 : BitVec 32 := BitVec.ofNat 32 (i 0).val
  let v1658 : Index := Scalar.indexCast arg0
  let c92 : Index := 92#32
  ![v1658.toNat, 92]
def k0_off94 (i : grid0.Coords) : Fin 2 → Nat :=
  let arg0 : BitVec 32 := BitVec.ofNat 32 (i 0).val
  let v1674 : Index := Scalar.indexCast arg0
  let c93 : Index := 93#32
  ![v1674.toNat, 93]
def k0_off95 (i : grid0.Coords) : Fin 2 → Nat :=
  let arg0 : BitVec 32 := BitVec.ofNat 32 (i 0).val
  let v1694 : Index := Scalar.indexCast arg0
  let c94 : Index := 94#32
  ![v1694.toNat, 94]
def k0_off96 (i : grid0.Coords) : Fin 2 → Nat :=
  let arg0 : BitVec 32 := BitVec.ofNat 32 (i 0).val
  let v1710 : Index := Scalar.indexCast arg0
  let c95 : Index := 95#32
  ![v1710.toNat, 95]
def k0_off97 (i : grid0.Coords) : Fin 2 → Nat :=
  let arg0 : BitVec 32 := BitVec.ofNat 32 (i 0).val
  let v1731 : Index := Scalar.indexCast arg0
  let c96 : Index := 96#32
  ![v1731.toNat, 96]
def k0_off98 (i : grid0.Coords) : Fin 2 → Nat :=
  let arg0 : BitVec 32 := BitVec.ofNat 32 (i 0).val
  let v1747 : Index := Scalar.indexCast arg0
  let c97 : Index := 97#32
  ![v1747.toNat, 97]
def k0_off99 (i : grid0.Coords) : Fin 2 → Nat :=
  let arg0 : BitVec 32 := BitVec.ofNat 32 (i 0).val
  let v1767 : Index := Scalar.indexCast arg0
  let c98 : Index := 98#32
  ![v1767.toNat, 98]
def k0_off100 (i : grid0.Coords) : Fin 2 → Nat :=
  let arg0 : BitVec 32 := BitVec.ofNat 32 (i 0).val
  let v1783 : Index := Scalar.indexCast arg0
  let c99 : Index := 99#32
  ![v1783.toNat, 99]
def k0_off101 (i : grid0.Coords) : Fin 2 → Nat :=
  let arg0 : BitVec 32 := BitVec.ofNat 32 (i 0).val
  let v1803 : Index := Scalar.indexCast arg0
  let c100 : Index := 100#32
  ![v1803.toNat, 100]
def k0_off102 (i : grid0.Coords) : Fin 2 → Nat :=
  let arg0 : BitVec 32 := BitVec.ofNat 32 (i 0).val
  let v1819 : Index := Scalar.indexCast arg0
  let c101 : Index := 101#32
  ![v1819.toNat, 101]
def k0_off103 (i : grid0.Coords) : Fin 2 → Nat :=
  let arg0 : BitVec 32 := BitVec.ofNat 32 (i 0).val
  let v1839 : Index := Scalar.indexCast arg0
  let c102 : Index := 102#32
  ![v1839.toNat, 102]
def k0_off104 (i : grid0.Coords) : Fin 2 → Nat :=
  let arg0 : BitVec 32 := BitVec.ofNat 32 (i 0).val
  let v1855 : Index := Scalar.indexCast arg0
  let c103 : Index := 103#32
  ![v1855.toNat, 103]
def k0_off105 (i : grid0.Coords) : Fin 2 → Nat :=
  let arg0 : BitVec 32 := BitVec.ofNat 32 (i 0).val
  let v1875 : Index := Scalar.indexCast arg0
  let c104 : Index := 104#32
  ![v1875.toNat, 104]
def k0_off106 (i : grid0.Coords) : Fin 2 → Nat :=
  let arg0 : BitVec 32 := BitVec.ofNat 32 (i 0).val
  let v1891 : Index := Scalar.indexCast arg0
  let c105 : Index := 105#32
  ![v1891.toNat, 105]
def k0_off107 (i : grid0.Coords) : Fin 2 → Nat :=
  let arg0 : BitVec 32 := BitVec.ofNat 32 (i 0).val
  let v1911 : Index := Scalar.indexCast arg0
  let c106 : Index := 106#32
  ![v1911.toNat, 106]
def k0_off108 (i : grid0.Coords) : Fin 2 → Nat :=
  let arg0 : BitVec 32 := BitVec.ofNat 32 (i 0).val
  let v1927 : Index := Scalar.indexCast arg0
  let c107 : Index := 107#32
  ![v1927.toNat, 107]
def k0_off109 (i : grid0.Coords) : Fin 2 → Nat :=
  let arg0 : BitVec 32 := BitVec.ofNat 32 (i 0).val
  let v1947 : Index := Scalar.indexCast arg0
  let c108 : Index := 108#32
  ![v1947.toNat, 108]
def k0_off110 (i : grid0.Coords) : Fin 2 → Nat :=
  let arg0 : BitVec 32 := BitVec.ofNat 32 (i 0).val
  let v1963 : Index := Scalar.indexCast arg0
  let c109 : Index := 109#32
  ![v1963.toNat, 109]
def k0_off111 (i : grid0.Coords) : Fin 2 → Nat :=
  let arg0 : BitVec 32 := BitVec.ofNat 32 (i 0).val
  let v1983 : Index := Scalar.indexCast arg0
  let c110 : Index := 110#32
  ![v1983.toNat, 110]
def k0_off112 (i : grid0.Coords) : Fin 2 → Nat :=
  let arg0 : BitVec 32 := BitVec.ofNat 32 (i 0).val
  let v1999 : Index := Scalar.indexCast arg0
  let c111 : Index := 111#32
  ![v1999.toNat, 111]
def k0_off113 (i : grid0.Coords) : Fin 2 → Nat :=
  let arg0 : BitVec 32 := BitVec.ofNat 32 (i 0).val
  let v2019 : Index := Scalar.indexCast arg0
  let c112 : Index := 112#32
  ![v2019.toNat, 112]
def k0_off114 (i : grid0.Coords) : Fin 2 → Nat :=
  let arg0 : BitVec 32 := BitVec.ofNat 32 (i 0).val
  let v2035 : Index := Scalar.indexCast arg0
  let c113 : Index := 113#32
  ![v2035.toNat, 113]
def k0_off115 (i : grid0.Coords) : Fin 2 → Nat :=
  let arg0 : BitVec 32 := BitVec.ofNat 32 (i 0).val
  let v2055 : Index := Scalar.indexCast arg0
  let c114 : Index := 114#32
  ![v2055.toNat, 114]
def k0_off116 (i : grid0.Coords) : Fin 2 → Nat :=
  let arg0 : BitVec 32 := BitVec.ofNat 32 (i 0).val
  let v2071 : Index := Scalar.indexCast arg0
  let c115 : Index := 115#32
  ![v2071.toNat, 115]
def k0_off117 (i : grid0.Coords) : Fin 2 → Nat :=
  let arg0 : BitVec 32 := BitVec.ofNat 32 (i 0).val
  let v2091 : Index := Scalar.indexCast arg0
  let c116 : Index := 116#32
  ![v2091.toNat, 116]
def k0_off118 (i : grid0.Coords) : Fin 2 → Nat :=
  let arg0 : BitVec 32 := BitVec.ofNat 32 (i 0).val
  let v2107 : Index := Scalar.indexCast arg0
  let c117 : Index := 117#32
  ![v2107.toNat, 117]
def k0_off119 (i : grid0.Coords) : Fin 2 → Nat :=
  let arg0 : BitVec 32 := BitVec.ofNat 32 (i 0).val
  let v2127 : Index := Scalar.indexCast arg0
  let c118 : Index := 118#32
  ![v2127.toNat, 118]
def k0_off120 (i : grid0.Coords) : Fin 2 → Nat :=
  let arg0 : BitVec 32 := BitVec.ofNat 32 (i 0).val
  let v2143 : Index := Scalar.indexCast arg0
  let c119 : Index := 119#32
  ![v2143.toNat, 119]
def k0_off121 (i : grid0.Coords) : Fin 2 → Nat :=
  let arg0 : BitVec 32 := BitVec.ofNat 32 (i 0).val
  let v2163 : Index := Scalar.indexCast arg0
  let c120 : Index := 120#32
  ![v2163.toNat, 120]
def k0_off122 (i : grid0.Coords) : Fin 2 → Nat :=
  let arg0 : BitVec 32 := BitVec.ofNat 32 (i 0).val
  let v2179 : Index := Scalar.indexCast arg0
  let c121 : Index := 121#32
  ![v2179.toNat, 121]
def k0_off123 (i : grid0.Coords) : Fin 2 → Nat :=
  let arg0 : BitVec 32 := BitVec.ofNat 32 (i 0).val
  let v2199 : Index := Scalar.indexCast arg0
  let c122 : Index := 122#32
  ![v2199.toNat, 122]
def k0_off124 (i : grid0.Coords) : Fin 2 → Nat :=
  let arg0 : BitVec 32 := BitVec.ofNat 32 (i 0).val
  let v2215 : Index := Scalar.indexCast arg0
  let c123 : Index := 123#32
  ![v2215.toNat, 123]
def k0_off125 (i : grid0.Coords) : Fin 2 → Nat :=
  let arg0 : BitVec 32 := BitVec.ofNat 32 (i 0).val
  let v2235 : Index := Scalar.indexCast arg0
  let c124 : Index := 124#32
  ![v2235.toNat, 124]
def k0_off126 (i : grid0.Coords) : Fin 2 → Nat :=
  let arg0 : BitVec 32 := BitVec.ofNat 32 (i 0).val
  let v2251 : Index := Scalar.indexCast arg0
  let c125 : Index := 125#32
  ![v2251.toNat, 125]
def k0_off127 (i : grid0.Coords) : Fin 2 → Nat :=
  let arg0 : BitVec 32 := BitVec.ofNat 32 (i 0).val
  let v2271 : Index := Scalar.indexCast arg0
  let c126 : Index := 126#32
  ![v2271.toNat, 126]
def k0_off128 (i : grid0.Coords) : Fin 2 → Nat :=
  let arg0 : BitVec 32 := BitVec.ofNat 32 (i 0).val
  let v2287 : Index := Scalar.indexCast arg0
  let c127 : Index := 127#32
  ![v2287.toNat, 127]
def k0_off129 (i : grid0.Coords) : Fin 2 → Nat :=
  let arg0 : BitVec 32 := BitVec.ofNat 32 (i 0).val
  let v2307 : Index := Scalar.indexCast arg0
  let c128_1171 : Index := 128#32
  ![v2307.toNat, 128]
def k0_off130 (i : grid0.Coords) : Fin 2 → Nat :=
  let arg0 : BitVec 32 := BitVec.ofNat 32 (i 0).val
  let v2323 : Index := Scalar.indexCast arg0
  let c129 : Index := 129#32
  ![v2323.toNat, 129]
def k0_off131 (i : grid0.Coords) : Fin 2 → Nat :=
  let arg0 : BitVec 32 := BitVec.ofNat 32 (i 0).val
  let v2343 : Index := Scalar.indexCast arg0
  let c130 : Index := 130#32
  ![v2343.toNat, 130]
def k0_off132 (i : grid0.Coords) : Fin 2 → Nat :=
  let arg0 : BitVec 32 := BitVec.ofNat 32 (i 0).val
  let v2359 : Index := Scalar.indexCast arg0
  let c131 : Index := 131#32
  ![v2359.toNat, 131]
def k0_off133 (i : grid0.Coords) : Fin 2 → Nat :=
  let arg0 : BitVec 32 := BitVec.ofNat 32 (i 0).val
  let v2379 : Index := Scalar.indexCast arg0
  let c132 : Index := 132#32
  ![v2379.toNat, 132]
def k0_off134 (i : grid0.Coords) : Fin 2 → Nat :=
  let arg0 : BitVec 32 := BitVec.ofNat 32 (i 0).val
  let v2395 : Index := Scalar.indexCast arg0
  let c133 : Index := 133#32
  ![v2395.toNat, 133]
def k0_off135 (i : grid0.Coords) : Fin 2 → Nat :=
  let arg0 : BitVec 32 := BitVec.ofNat 32 (i 0).val
  let v2415 : Index := Scalar.indexCast arg0
  let c134 : Index := 134#32
  ![v2415.toNat, 134]
def k0_off136 (i : grid0.Coords) : Fin 2 → Nat :=
  let arg0 : BitVec 32 := BitVec.ofNat 32 (i 0).val
  let v2431 : Index := Scalar.indexCast arg0
  let c135 : Index := 135#32
  ![v2431.toNat, 135]
def k0_off137 (i : grid0.Coords) : Fin 2 → Nat :=
  let arg0 : BitVec 32 := BitVec.ofNat 32 (i 0).val
  let v2451 : Index := Scalar.indexCast arg0
  let c136 : Index := 136#32
  ![v2451.toNat, 136]
def k0_off138 (i : grid0.Coords) : Fin 2 → Nat :=
  let arg0 : BitVec 32 := BitVec.ofNat 32 (i 0).val
  let v2467 : Index := Scalar.indexCast arg0
  let c137 : Index := 137#32
  ![v2467.toNat, 137]
def k0_off139 (i : grid0.Coords) : Fin 2 → Nat :=
  let arg0 : BitVec 32 := BitVec.ofNat 32 (i 0).val
  let v2487 : Index := Scalar.indexCast arg0
  let c138 : Index := 138#32
  ![v2487.toNat, 138]
def k0_off140 (i : grid0.Coords) : Fin 2 → Nat :=
  let arg0 : BitVec 32 := BitVec.ofNat 32 (i 0).val
  let v2503 : Index := Scalar.indexCast arg0
  let c139 : Index := 139#32
  ![v2503.toNat, 139]
def k0_off141 (i : grid0.Coords) : Fin 2 → Nat :=
  let arg0 : BitVec 32 := BitVec.ofNat 32 (i 0).val
  let v2523 : Index := Scalar.indexCast arg0
  let c140 : Index := 140#32
  ![v2523.toNat, 140]
def k0_off142 (i : grid0.Coords) : Fin 2 → Nat :=
  let arg0 : BitVec 32 := BitVec.ofNat 32 (i 0).val
  let v2539 : Index := Scalar.indexCast arg0
  let c141 : Index := 141#32
  ![v2539.toNat, 141]
def k0_off143 (i : grid0.Coords) : Fin 2 → Nat :=
  let arg0 : BitVec 32 := BitVec.ofNat 32 (i 0).val
  let v2559 : Index := Scalar.indexCast arg0
  let c142 : Index := 142#32
  ![v2559.toNat, 142]
def k0_off144 (i : grid0.Coords) : Fin 2 → Nat :=
  let arg0 : BitVec 32 := BitVec.ofNat 32 (i 0).val
  let v2575 : Index := Scalar.indexCast arg0
  let c143 : Index := 143#32
  ![v2575.toNat, 143]
def k0_off145 (i : grid0.Coords) : Fin 2 → Nat :=
  let arg0 : BitVec 32 := BitVec.ofNat 32 (i 0).val
  let v2596 : Index := Scalar.indexCast arg0
  let c144 : Index := 144#32
  ![v2596.toNat, 144]
def k0_off146 (i : grid0.Coords) : Fin 2 → Nat :=
  let arg0 : BitVec 32 := BitVec.ofNat 32 (i 0).val
  let v2612 : Index := Scalar.indexCast arg0
  let c145 : Index := 145#32
  ![v2612.toNat, 145]
def k0_off147 (i : grid0.Coords) : Fin 2 → Nat :=
  let arg0 : BitVec 32 := BitVec.ofNat 32 (i 0).val
  let v2632 : Index := Scalar.indexCast arg0
  let c146 : Index := 146#32
  ![v2632.toNat, 146]
def k0_off148 (i : grid0.Coords) : Fin 2 → Nat :=
  let arg0 : BitVec 32 := BitVec.ofNat 32 (i 0).val
  let v2648 : Index := Scalar.indexCast arg0
  let c147 : Index := 147#32
  ![v2648.toNat, 147]
def k0_off149 (i : grid0.Coords) : Fin 2 → Nat :=
  let arg0 : BitVec 32 := BitVec.ofNat 32 (i 0).val
  let v2668 : Index := Scalar.indexCast arg0
  let c148 : Index := 148#32
  ![v2668.toNat, 148]
def k0_off150 (i : grid0.Coords) : Fin 2 → Nat :=
  let arg0 : BitVec 32 := BitVec.ofNat 32 (i 0).val
  let v2684 : Index := Scalar.indexCast arg0
  let c149 : Index := 149#32
  ![v2684.toNat, 149]
def k0_off151 (i : grid0.Coords) : Fin 2 → Nat :=
  let arg0 : BitVec 32 := BitVec.ofNat 32 (i 0).val
  let v2704 : Index := Scalar.indexCast arg0
  let c150 : Index := 150#32
  ![v2704.toNat, 150]
def k0_off152 (i : grid0.Coords) : Fin 2 → Nat :=
  let arg0 : BitVec 32 := BitVec.ofNat 32 (i 0).val
  let v2720 : Index := Scalar.indexCast arg0
  let c151 : Index := 151#32
  ![v2720.toNat, 151]
def k0_off153 (i : grid0.Coords) : Fin 2 → Nat :=
  let arg0 : BitVec 32 := BitVec.ofNat 32 (i 0).val
  let v2740 : Index := Scalar.indexCast arg0
  let c152 : Index := 152#32
  ![v2740.toNat, 152]
def k0_off154 (i : grid0.Coords) : Fin 2 → Nat :=
  let arg0 : BitVec 32 := BitVec.ofNat 32 (i 0).val
  let v2756 : Index := Scalar.indexCast arg0
  let c153 : Index := 153#32
  ![v2756.toNat, 153]
def k0_off155 (i : grid0.Coords) : Fin 2 → Nat :=
  let arg0 : BitVec 32 := BitVec.ofNat 32 (i 0).val
  let v2776 : Index := Scalar.indexCast arg0
  let c154 : Index := 154#32
  ![v2776.toNat, 154]
def k0_off156 (i : grid0.Coords) : Fin 2 → Nat :=
  let arg0 : BitVec 32 := BitVec.ofNat 32 (i 0).val
  let v2792 : Index := Scalar.indexCast arg0
  let c155 : Index := 155#32
  ![v2792.toNat, 155]
def k0_off157 (i : grid0.Coords) : Fin 2 → Nat :=
  let arg0 : BitVec 32 := BitVec.ofNat 32 (i 0).val
  let v2812 : Index := Scalar.indexCast arg0
  let c156 : Index := 156#32
  ![v2812.toNat, 156]
def k0_off158 (i : grid0.Coords) : Fin 2 → Nat :=
  let arg0 : BitVec 32 := BitVec.ofNat 32 (i 0).val
  let v2828 : Index := Scalar.indexCast arg0
  let c157 : Index := 157#32
  ![v2828.toNat, 157]
def k0_off159 (i : grid0.Coords) : Fin 2 → Nat :=
  let arg0 : BitVec 32 := BitVec.ofNat 32 (i 0).val
  let v2848 : Index := Scalar.indexCast arg0
  let c158 : Index := 158#32
  ![v2848.toNat, 158]
def k0_off160 (i : grid0.Coords) : Fin 2 → Nat :=
  let arg0 : BitVec 32 := BitVec.ofNat 32 (i 0).val
  let v2864 : Index := Scalar.indexCast arg0
  let c159 : Index := 159#32
  ![v2864.toNat, 159]
def k0_off161 (i : grid0.Coords) : Fin 2 → Nat :=
  let arg0 : BitVec 32 := BitVec.ofNat 32 (i 0).val
  let v2884 : Index := Scalar.indexCast arg0
  let c160 : Index := 160#32
  ![v2884.toNat, 160]
def k0_off162 (i : grid0.Coords) : Fin 2 → Nat :=
  let arg0 : BitVec 32 := BitVec.ofNat 32 (i 0).val
  let v2900 : Index := Scalar.indexCast arg0
  let c161 : Index := 161#32
  ![v2900.toNat, 161]
def k0_off163 (i : grid0.Coords) : Fin 2 → Nat :=
  let arg0 : BitVec 32 := BitVec.ofNat 32 (i 0).val
  let v2920 : Index := Scalar.indexCast arg0
  let c162 : Index := 162#32
  ![v2920.toNat, 162]
def k0_off164 (i : grid0.Coords) : Fin 2 → Nat :=
  let arg0 : BitVec 32 := BitVec.ofNat 32 (i 0).val
  let v2936 : Index := Scalar.indexCast arg0
  let c163 : Index := 163#32
  ![v2936.toNat, 163]
def k0_off165 (i : grid0.Coords) : Fin 2 → Nat :=
  let arg0 : BitVec 32 := BitVec.ofNat 32 (i 0).val
  let v2956 : Index := Scalar.indexCast arg0
  let c164 : Index := 164#32
  ![v2956.toNat, 164]
def k0_off166 (i : grid0.Coords) : Fin 2 → Nat :=
  let arg0 : BitVec 32 := BitVec.ofNat 32 (i 0).val
  let v2972 : Index := Scalar.indexCast arg0
  let c165 : Index := 165#32
  ![v2972.toNat, 165]
def k0_off167 (i : grid0.Coords) : Fin 2 → Nat :=
  let arg0 : BitVec 32 := BitVec.ofNat 32 (i 0).val
  let v2992 : Index := Scalar.indexCast arg0
  let c166 : Index := 166#32
  ![v2992.toNat, 166]
def k0_off168 (i : grid0.Coords) : Fin 2 → Nat :=
  let arg0 : BitVec 32 := BitVec.ofNat 32 (i 0).val
  let v3008 : Index := Scalar.indexCast arg0
  let c167 : Index := 167#32
  ![v3008.toNat, 167]
def k0_off169 (i : grid0.Coords) : Fin 2 → Nat :=
  let arg0 : BitVec 32 := BitVec.ofNat 32 (i 0).val
  let v3028 : Index := Scalar.indexCast arg0
  let c168 : Index := 168#32
  ![v3028.toNat, 168]
def k0_off170 (i : grid0.Coords) : Fin 2 → Nat :=
  let arg0 : BitVec 32 := BitVec.ofNat 32 (i 0).val
  let v3044 : Index := Scalar.indexCast arg0
  let c169 : Index := 169#32
  ![v3044.toNat, 169]
def k0_off171 (i : grid0.Coords) : Fin 2 → Nat :=
  let arg0 : BitVec 32 := BitVec.ofNat 32 (i 0).val
  let v3064 : Index := Scalar.indexCast arg0
  let c170 : Index := 170#32
  ![v3064.toNat, 170]
def k0_off172 (i : grid0.Coords) : Fin 2 → Nat :=
  let arg0 : BitVec 32 := BitVec.ofNat 32 (i 0).val
  let v3080 : Index := Scalar.indexCast arg0
  let c171 : Index := 171#32
  ![v3080.toNat, 171]
def k0_off173 (i : grid0.Coords) : Fin 2 → Nat :=
  let arg0 : BitVec 32 := BitVec.ofNat 32 (i 0).val
  let v3100 : Index := Scalar.indexCast arg0
  let c172 : Index := 172#32
  ![v3100.toNat, 172]
def k0_off174 (i : grid0.Coords) : Fin 2 → Nat :=
  let arg0 : BitVec 32 := BitVec.ofNat 32 (i 0).val
  let v3116 : Index := Scalar.indexCast arg0
  let c173 : Index := 173#32
  ![v3116.toNat, 173]
def k0_off175 (i : grid0.Coords) : Fin 2 → Nat :=
  let arg0 : BitVec 32 := BitVec.ofNat 32 (i 0).val
  let v3136 : Index := Scalar.indexCast arg0
  let c174 : Index := 174#32
  ![v3136.toNat, 174]
def k0_off176 (i : grid0.Coords) : Fin 2 → Nat :=
  let arg0 : BitVec 32 := BitVec.ofNat 32 (i 0).val
  let v3152 : Index := Scalar.indexCast arg0
  let c175 : Index := 175#32
  ![v3152.toNat, 175]
def k0_off177 (i : grid0.Coords) : Fin 2 → Nat :=
  let arg0 : BitVec 32 := BitVec.ofNat 32 (i 0).val
  let v3172 : Index := Scalar.indexCast arg0
  let c176 : Index := 176#32
  ![v3172.toNat, 176]
def k0_off178 (i : grid0.Coords) : Fin 2 → Nat :=
  let arg0 : BitVec 32 := BitVec.ofNat 32 (i 0).val
  let v3188 : Index := Scalar.indexCast arg0
  let c177 : Index := 177#32
  ![v3188.toNat, 177]
def k0_off179 (i : grid0.Coords) : Fin 2 → Nat :=
  let arg0 : BitVec 32 := BitVec.ofNat 32 (i 0).val
  let v3208 : Index := Scalar.indexCast arg0
  let c178 : Index := 178#32
  ![v3208.toNat, 178]
def k0_off180 (i : grid0.Coords) : Fin 2 → Nat :=
  let arg0 : BitVec 32 := BitVec.ofNat 32 (i 0).val
  let v3224 : Index := Scalar.indexCast arg0
  let c179 : Index := 179#32
  ![v3224.toNat, 179]
def k0_off181 (i : grid0.Coords) : Fin 2 → Nat :=
  let arg0 : BitVec 32 := BitVec.ofNat 32 (i 0).val
  let v3244 : Index := Scalar.indexCast arg0
  let c180 : Index := 180#32
  ![v3244.toNat, 180]
def k0_off182 (i : grid0.Coords) : Fin 2 → Nat :=
  let arg0 : BitVec 32 := BitVec.ofNat 32 (i 0).val
  let v3260 : Index := Scalar.indexCast arg0
  let c181 : Index := 181#32
  ![v3260.toNat, 181]
def k0_off183 (i : grid0.Coords) : Fin 2 → Nat :=
  let arg0 : BitVec 32 := BitVec.ofNat 32 (i 0).val
  let v3280 : Index := Scalar.indexCast arg0
  let c182 : Index := 182#32
  ![v3280.toNat, 182]
def k0_off184 (i : grid0.Coords) : Fin 2 → Nat :=
  let arg0 : BitVec 32 := BitVec.ofNat 32 (i 0).val
  let v3296 : Index := Scalar.indexCast arg0
  let c183 : Index := 183#32
  ![v3296.toNat, 183]
def k0_off185 (i : grid0.Coords) : Fin 2 → Nat :=
  let arg0 : BitVec 32 := BitVec.ofNat 32 (i 0).val
  let v3316 : Index := Scalar.indexCast arg0
  let c184 : Index := 184#32
  ![v3316.toNat, 184]
def k0_off186 (i : grid0.Coords) : Fin 2 → Nat :=
  let arg0 : BitVec 32 := BitVec.ofNat 32 (i 0).val
  let v3332 : Index := Scalar.indexCast arg0
  let c185 : Index := 185#32
  ![v3332.toNat, 185]
def k0_off187 (i : grid0.Coords) : Fin 2 → Nat :=
  let arg0 : BitVec 32 := BitVec.ofNat 32 (i 0).val
  let v3352 : Index := Scalar.indexCast arg0
  let c186 : Index := 186#32
  ![v3352.toNat, 186]
def k0_off188 (i : grid0.Coords) : Fin 2 → Nat :=
  let arg0 : BitVec 32 := BitVec.ofNat 32 (i 0).val
  let v3368 : Index := Scalar.indexCast arg0
  let c187 : Index := 187#32
  ![v3368.toNat, 187]
def k0_off189 (i : grid0.Coords) : Fin 2 → Nat :=
  let arg0 : BitVec 32 := BitVec.ofNat 32 (i 0).val
  let v3388 : Index := Scalar.indexCast arg0
  let c188 : Index := 188#32
  ![v3388.toNat, 188]
def k0_off190 (i : grid0.Coords) : Fin 2 → Nat :=
  let arg0 : BitVec 32 := BitVec.ofNat 32 (i 0).val
  let v3404 : Index := Scalar.indexCast arg0
  let c189 : Index := 189#32
  ![v3404.toNat, 189]
def k0_off191 (i : grid0.Coords) : Fin 2 → Nat :=
  let arg0 : BitVec 32 := BitVec.ofNat 32 (i 0).val
  let v3424 : Index := Scalar.indexCast arg0
  let c190 : Index := 190#32
  ![v3424.toNat, 190]
def k0_off192 (i : grid0.Coords) : Fin 2 → Nat :=
  let arg0 : BitVec 32 := BitVec.ofNat 32 (i 0).val
  let v3440 : Index := Scalar.indexCast arg0
  let c191 : Index := 191#32
  ![v3440.toNat, 191]
def k0_off193 (i : grid0.Coords) : Fin 2 → Nat :=
  let arg0 : BitVec 32 := BitVec.ofNat 32 (i 0).val
  let v3461 : Index := Scalar.indexCast arg0
  let c192 : Index := 192#32
  ![v3461.toNat, 192]
def k0_off194 (i : grid0.Coords) : Fin 2 → Nat :=
  let arg0 : BitVec 32 := BitVec.ofNat 32 (i 0).val
  let v3477 : Index := Scalar.indexCast arg0
  let c193 : Index := 193#32
  ![v3477.toNat, 193]
def k0_off195 (i : grid0.Coords) : Fin 2 → Nat :=
  let arg0 : BitVec 32 := BitVec.ofNat 32 (i 0).val
  let v3497 : Index := Scalar.indexCast arg0
  let c194 : Index := 194#32
  ![v3497.toNat, 194]
def k0_off196 (i : grid0.Coords) : Fin 2 → Nat :=
  let arg0 : BitVec 32 := BitVec.ofNat 32 (i 0).val
  let v3513 : Index := Scalar.indexCast arg0
  let c195 : Index := 195#32
  ![v3513.toNat, 195]
def k0_off197 (i : grid0.Coords) : Fin 2 → Nat :=
  let arg0 : BitVec 32 := BitVec.ofNat 32 (i 0).val
  let v3533 : Index := Scalar.indexCast arg0
  let c196 : Index := 196#32
  ![v3533.toNat, 196]
def k0_off198 (i : grid0.Coords) : Fin 2 → Nat :=
  let arg0 : BitVec 32 := BitVec.ofNat 32 (i 0).val
  let v3549 : Index := Scalar.indexCast arg0
  let c197 : Index := 197#32
  ![v3549.toNat, 197]
def k0_off199 (i : grid0.Coords) : Fin 2 → Nat :=
  let arg0 : BitVec 32 := BitVec.ofNat 32 (i 0).val
  let v3569 : Index := Scalar.indexCast arg0
  let c198 : Index := 198#32
  ![v3569.toNat, 198]
def k0_off200 (i : grid0.Coords) : Fin 2 → Nat :=
  let arg0 : BitVec 32 := BitVec.ofNat 32 (i 0).val
  let v3585 : Index := Scalar.indexCast arg0
  let c199 : Index := 199#32
  ![v3585.toNat, 199]
def k0_off201 (i : grid0.Coords) : Fin 2 → Nat :=
  let arg0 : BitVec 32 := BitVec.ofNat 32 (i 0).val
  let v3605 : Index := Scalar.indexCast arg0
  let c200 : Index := 200#32
  ![v3605.toNat, 200]
def k0_off202 (i : grid0.Coords) : Fin 2 → Nat :=
  let arg0 : BitVec 32 := BitVec.ofNat 32 (i 0).val
  let v3621 : Index := Scalar.indexCast arg0
  let c201 : Index := 201#32
  ![v3621.toNat, 201]
def k0_off203 (i : grid0.Coords) : Fin 2 → Nat :=
  let arg0 : BitVec 32 := BitVec.ofNat 32 (i 0).val
  let v3641 : Index := Scalar.indexCast arg0
  let c202 : Index := 202#32
  ![v3641.toNat, 202]
def k0_off204 (i : grid0.Coords) : Fin 2 → Nat :=
  let arg0 : BitVec 32 := BitVec.ofNat 32 (i 0).val
  let v3657 : Index := Scalar.indexCast arg0
  let c203 : Index := 203#32
  ![v3657.toNat, 203]
def k0_off205 (i : grid0.Coords) : Fin 2 → Nat :=
  let arg0 : BitVec 32 := BitVec.ofNat 32 (i 0).val
  let v3677 : Index := Scalar.indexCast arg0
  let c204 : Index := 204#32
  ![v3677.toNat, 204]
def k0_off206 (i : grid0.Coords) : Fin 2 → Nat :=
  let arg0 : BitVec 32 := BitVec.ofNat 32 (i 0).val
  let v3693 : Index := Scalar.indexCast arg0
  let c205 : Index := 205#32
  ![v3693.toNat, 205]
def k0_off207 (i : grid0.Coords) : Fin 2 → Nat :=
  let arg0 : BitVec 32 := BitVec.ofNat 32 (i 0).val
  let v3713 : Index := Scalar.indexCast arg0
  let c206 : Index := 206#32
  ![v3713.toNat, 206]
def k0_off208 (i : grid0.Coords) : Fin 2 → Nat :=
  let arg0 : BitVec 32 := BitVec.ofNat 32 (i 0).val
  let v3729 : Index := Scalar.indexCast arg0
  let c207 : Index := 207#32
  ![v3729.toNat, 207]
def k0_off209 (i : grid0.Coords) : Fin 2 → Nat :=
  let arg0 : BitVec 32 := BitVec.ofNat 32 (i 0).val
  let v3749 : Index := Scalar.indexCast arg0
  let c208 : Index := 208#32
  ![v3749.toNat, 208]
def k0_off210 (i : grid0.Coords) : Fin 2 → Nat :=
  let arg0 : BitVec 32 := BitVec.ofNat 32 (i 0).val
  let v3765 : Index := Scalar.indexCast arg0
  let c209 : Index := 209#32
  ![v3765.toNat, 209]
def k0_off211 (i : grid0.Coords) : Fin 2 → Nat :=
  let arg0 : BitVec 32 := BitVec.ofNat 32 (i 0).val
  let v3785 : Index := Scalar.indexCast arg0
  let c210 : Index := 210#32
  ![v3785.toNat, 210]
def k0_off212 (i : grid0.Coords) : Fin 2 → Nat :=
  let arg0 : BitVec 32 := BitVec.ofNat 32 (i 0).val
  let v3801 : Index := Scalar.indexCast arg0
  let c211 : Index := 211#32
  ![v3801.toNat, 211]
def k0_off213 (i : grid0.Coords) : Fin 2 → Nat :=
  let arg0 : BitVec 32 := BitVec.ofNat 32 (i 0).val
  let v3821 : Index := Scalar.indexCast arg0
  let c212 : Index := 212#32
  ![v3821.toNat, 212]
def k0_off214 (i : grid0.Coords) : Fin 2 → Nat :=
  let arg0 : BitVec 32 := BitVec.ofNat 32 (i 0).val
  let v3837 : Index := Scalar.indexCast arg0
  let c213 : Index := 213#32
  ![v3837.toNat, 213]
def k0_off215 (i : grid0.Coords) : Fin 2 → Nat :=
  let arg0 : BitVec 32 := BitVec.ofNat 32 (i 0).val
  let v3857 : Index := Scalar.indexCast arg0
  let c214 : Index := 214#32
  ![v3857.toNat, 214]
def k0_off216 (i : grid0.Coords) : Fin 2 → Nat :=
  let arg0 : BitVec 32 := BitVec.ofNat 32 (i 0).val
  let v3873 : Index := Scalar.indexCast arg0
  let c215 : Index := 215#32
  ![v3873.toNat, 215]
def k0_off217 (i : grid0.Coords) : Fin 2 → Nat :=
  let arg0 : BitVec 32 := BitVec.ofNat 32 (i 0).val
  let v3893 : Index := Scalar.indexCast arg0
  let c216 : Index := 216#32
  ![v3893.toNat, 216]
def k0_off218 (i : grid0.Coords) : Fin 2 → Nat :=
  let arg0 : BitVec 32 := BitVec.ofNat 32 (i 0).val
  let v3909 : Index := Scalar.indexCast arg0
  let c217 : Index := 217#32
  ![v3909.toNat, 217]
def k0_off219 (i : grid0.Coords) : Fin 2 → Nat :=
  let arg0 : BitVec 32 := BitVec.ofNat 32 (i 0).val
  let v3929 : Index := Scalar.indexCast arg0
  let c218 : Index := 218#32
  ![v3929.toNat, 218]
def k0_off220 (i : grid0.Coords) : Fin 2 → Nat :=
  let arg0 : BitVec 32 := BitVec.ofNat 32 (i 0).val
  let v3945 : Index := Scalar.indexCast arg0
  let c219 : Index := 219#32
  ![v3945.toNat, 219]
def k0_off221 (i : grid0.Coords) : Fin 2 → Nat :=
  let arg0 : BitVec 32 := BitVec.ofNat 32 (i 0).val
  let v3965 : Index := Scalar.indexCast arg0
  let c220 : Index := 220#32
  ![v3965.toNat, 220]
def k0_off222 (i : grid0.Coords) : Fin 2 → Nat :=
  let arg0 : BitVec 32 := BitVec.ofNat 32 (i 0).val
  let v3981 : Index := Scalar.indexCast arg0
  let c221 : Index := 221#32
  ![v3981.toNat, 221]
def k0_off223 (i : grid0.Coords) : Fin 2 → Nat :=
  let arg0 : BitVec 32 := BitVec.ofNat 32 (i 0).val
  let v4001 : Index := Scalar.indexCast arg0
  let c222 : Index := 222#32
  ![v4001.toNat, 222]
def k0_off224 (i : grid0.Coords) : Fin 2 → Nat :=
  let arg0 : BitVec 32 := BitVec.ofNat 32 (i 0).val
  let v4017 : Index := Scalar.indexCast arg0
  let c223 : Index := 223#32
  ![v4017.toNat, 223]
def k0_off225 (i : grid0.Coords) : Fin 2 → Nat :=
  let arg0 : BitVec 32 := BitVec.ofNat 32 (i 0).val
  let v4037 : Index := Scalar.indexCast arg0
  let c224 : Index := 224#32
  ![v4037.toNat, 224]
def k0_off226 (i : grid0.Coords) : Fin 2 → Nat :=
  let arg0 : BitVec 32 := BitVec.ofNat 32 (i 0).val
  let v4053 : Index := Scalar.indexCast arg0
  let c225 : Index := 225#32
  ![v4053.toNat, 225]
def k0_off227 (i : grid0.Coords) : Fin 2 → Nat :=
  let arg0 : BitVec 32 := BitVec.ofNat 32 (i 0).val
  let v4073 : Index := Scalar.indexCast arg0
  let c226 : Index := 226#32
  ![v4073.toNat, 226]
def k0_off228 (i : grid0.Coords) : Fin 2 → Nat :=
  let arg0 : BitVec 32 := BitVec.ofNat 32 (i 0).val
  let v4089 : Index := Scalar.indexCast arg0
  let c227 : Index := 227#32
  ![v4089.toNat, 227]
def k0_off229 (i : grid0.Coords) : Fin 2 → Nat :=
  let arg0 : BitVec 32 := BitVec.ofNat 32 (i 0).val
  let v4109 : Index := Scalar.indexCast arg0
  let c228 : Index := 228#32
  ![v4109.toNat, 228]
def k0_off230 (i : grid0.Coords) : Fin 2 → Nat :=
  let arg0 : BitVec 32 := BitVec.ofNat 32 (i 0).val
  let v4125 : Index := Scalar.indexCast arg0
  let c229 : Index := 229#32
  ![v4125.toNat, 229]
def k0_off231 (i : grid0.Coords) : Fin 2 → Nat :=
  let arg0 : BitVec 32 := BitVec.ofNat 32 (i 0).val
  let v4145 : Index := Scalar.indexCast arg0
  let c230 : Index := 230#32
  ![v4145.toNat, 230]
def k0_off232 (i : grid0.Coords) : Fin 2 → Nat :=
  let arg0 : BitVec 32 := BitVec.ofNat 32 (i 0).val
  let v4161 : Index := Scalar.indexCast arg0
  let c231 : Index := 231#32
  ![v4161.toNat, 231]
def k0_off233 (i : grid0.Coords) : Fin 2 → Nat :=
  let arg0 : BitVec 32 := BitVec.ofNat 32 (i 0).val
  let v4181 : Index := Scalar.indexCast arg0
  let c232 : Index := 232#32
  ![v4181.toNat, 232]
def k0_off234 (i : grid0.Coords) : Fin 2 → Nat :=
  let arg0 : BitVec 32 := BitVec.ofNat 32 (i 0).val
  let v4197 : Index := Scalar.indexCast arg0
  let c233 : Index := 233#32
  ![v4197.toNat, 233]
def k0_off235 (i : grid0.Coords) : Fin 2 → Nat :=
  let arg0 : BitVec 32 := BitVec.ofNat 32 (i 0).val
  let v4217 : Index := Scalar.indexCast arg0
  let c234 : Index := 234#32
  ![v4217.toNat, 234]
def k0_off236 (i : grid0.Coords) : Fin 2 → Nat :=
  let arg0 : BitVec 32 := BitVec.ofNat 32 (i 0).val
  let v4233 : Index := Scalar.indexCast arg0
  let c235 : Index := 235#32
  ![v4233.toNat, 235]
def k0_off237 (i : grid0.Coords) : Fin 2 → Nat :=
  let arg0 : BitVec 32 := BitVec.ofNat 32 (i 0).val
  let v4253 : Index := Scalar.indexCast arg0
  let c236 : Index := 236#32
  ![v4253.toNat, 236]
def k0_off238 (i : grid0.Coords) : Fin 2 → Nat :=
  let arg0 : BitVec 32 := BitVec.ofNat 32 (i 0).val
  let v4269 : Index := Scalar.indexCast arg0
  let c237 : Index := 237#32
  ![v4269.toNat, 237]
def k0_off239 (i : grid0.Coords) : Fin 2 → Nat :=
  let arg0 : BitVec 32 := BitVec.ofNat 32 (i 0).val
  let v4289 : Index := Scalar.indexCast arg0
  let c238 : Index := 238#32
  ![v4289.toNat, 238]
def k0_off240 (i : grid0.Coords) : Fin 2 → Nat :=
  let arg0 : BitVec 32 := BitVec.ofNat 32 (i 0).val
  let v4305 : Index := Scalar.indexCast arg0
  let c239 : Index := 239#32
  ![v4305.toNat, 239]
def k0_off241 (i : grid0.Coords) : Fin 2 → Nat :=
  let arg0 : BitVec 32 := BitVec.ofNat 32 (i 0).val
  let v4326 : Index := Scalar.indexCast arg0
  let c240 : Index := 240#32
  ![v4326.toNat, 240]
def k0_off242 (i : grid0.Coords) : Fin 2 → Nat :=
  let arg0 : BitVec 32 := BitVec.ofNat 32 (i 0).val
  let v4342 : Index := Scalar.indexCast arg0
  let c241 : Index := 241#32
  ![v4342.toNat, 241]
def k0_off243 (i : grid0.Coords) : Fin 2 → Nat :=
  let arg0 : BitVec 32 := BitVec.ofNat 32 (i 0).val
  let v4362 : Index := Scalar.indexCast arg0
  let c242 : Index := 242#32
  ![v4362.toNat, 242]
def k0_off244 (i : grid0.Coords) : Fin 2 → Nat :=
  let arg0 : BitVec 32 := BitVec.ofNat 32 (i 0).val
  let v4378 : Index := Scalar.indexCast arg0
  let c243 : Index := 243#32
  ![v4378.toNat, 243]
def k0_off245 (i : grid0.Coords) : Fin 2 → Nat :=
  let arg0 : BitVec 32 := BitVec.ofNat 32 (i 0).val
  let v4398 : Index := Scalar.indexCast arg0
  let c244 : Index := 244#32
  ![v4398.toNat, 244]
def k0_off246 (i : grid0.Coords) : Fin 2 → Nat :=
  let arg0 : BitVec 32 := BitVec.ofNat 32 (i 0).val
  let v4414 : Index := Scalar.indexCast arg0
  let c245 : Index := 245#32
  ![v4414.toNat, 245]
def k0_off247 (i : grid0.Coords) : Fin 2 → Nat :=
  let arg0 : BitVec 32 := BitVec.ofNat 32 (i 0).val
  let v4434 : Index := Scalar.indexCast arg0
  let c246 : Index := 246#32
  ![v4434.toNat, 246]
def k0_off248 (i : grid0.Coords) : Fin 2 → Nat :=
  let arg0 : BitVec 32 := BitVec.ofNat 32 (i 0).val
  let v4450 : Index := Scalar.indexCast arg0
  let c247 : Index := 247#32
  ![v4450.toNat, 247]
def k0_off249 (i : grid0.Coords) : Fin 2 → Nat :=
  let arg0 : BitVec 32 := BitVec.ofNat 32 (i 0).val
  let v4470 : Index := Scalar.indexCast arg0
  let c248 : Index := 248#32
  ![v4470.toNat, 248]
def k0_off250 (i : grid0.Coords) : Fin 2 → Nat :=
  let arg0 : BitVec 32 := BitVec.ofNat 32 (i 0).val
  let v4486 : Index := Scalar.indexCast arg0
  let c249 : Index := 249#32
  ![v4486.toNat, 249]
def k0_off251 (i : grid0.Coords) : Fin 2 → Nat :=
  let arg0 : BitVec 32 := BitVec.ofNat 32 (i 0).val
  let v4506 : Index := Scalar.indexCast arg0
  let c250 : Index := 250#32
  ![v4506.toNat, 250]
def k0_off252 (i : grid0.Coords) : Fin 2 → Nat :=
  let arg0 : BitVec 32 := BitVec.ofNat 32 (i 0).val
  let v4522 : Index := Scalar.indexCast arg0
  let c251 : Index := 251#32
  ![v4522.toNat, 251]
def k0_off253 (i : grid0.Coords) : Fin 2 → Nat :=
  let arg0 : BitVec 32 := BitVec.ofNat 32 (i 0).val
  let v4542 : Index := Scalar.indexCast arg0
  let c252 : Index := 252#32
  ![v4542.toNat, 252]
def k0_off254 (i : grid0.Coords) : Fin 2 → Nat :=
  let arg0 : BitVec 32 := BitVec.ofNat 32 (i 0).val
  let v4558 : Index := Scalar.indexCast arg0
  let c253 : Index := 253#32
  ![v4558.toNat, 253]
def k0_off255 (i : grid0.Coords) : Fin 2 → Nat :=
  let arg0 : BitVec 32 := BitVec.ofNat 32 (i 0).val
  let v4578 : Index := Scalar.indexCast arg0
  let c254 : Index := 254#32
  ![v4578.toNat, 254]
def k0_off256 (i : grid0.Coords) : Fin 2 → Nat :=
  let arg0 : BitVec 32 := BitVec.ofNat 32 (i 0).val
  let v4594 : Index := Scalar.indexCast arg0
  let c255 : Index := 255#32
  ![v4594.toNat, 255]
def k0_off257 (i : grid0.Coords) : Fin 2 → Nat :=
  let arg0 : BitVec 32 := BitVec.ofNat 32 (i 0).val
  let v4614 : Index := Scalar.indexCast arg0
  let c256_2391 : Index := 256#32
  ![v4614.toNat, 256]
def k0_off258 (i : grid0.Coords) : Fin 2 → Nat :=
  let arg0 : BitVec 32 := BitVec.ofNat 32 (i 0).val
  let v4630 : Index := Scalar.indexCast arg0
  let c257 : Index := 257#32
  ![v4630.toNat, 257]
def k0_off259 (i : grid0.Coords) : Fin 2 → Nat :=
  let arg0 : BitVec 32 := BitVec.ofNat 32 (i 0).val
  let v4650 : Index := Scalar.indexCast arg0
  let c258 : Index := 258#32
  ![v4650.toNat, 258]
def k0_off260 (i : grid0.Coords) : Fin 2 → Nat :=
  let arg0 : BitVec 32 := BitVec.ofNat 32 (i 0).val
  let v4666 : Index := Scalar.indexCast arg0
  let c259 : Index := 259#32
  ![v4666.toNat, 259]
def k0_off261 (i : grid0.Coords) : Fin 2 → Nat :=
  let arg0 : BitVec 32 := BitVec.ofNat 32 (i 0).val
  let v4686 : Index := Scalar.indexCast arg0
  let c260 : Index := 260#32
  ![v4686.toNat, 260]
def k0_off262 (i : grid0.Coords) : Fin 2 → Nat :=
  let arg0 : BitVec 32 := BitVec.ofNat 32 (i 0).val
  let v4702 : Index := Scalar.indexCast arg0
  let c261 : Index := 261#32
  ![v4702.toNat, 261]
def k0_off263 (i : grid0.Coords) : Fin 2 → Nat :=
  let arg0 : BitVec 32 := BitVec.ofNat 32 (i 0).val
  let v4722 : Index := Scalar.indexCast arg0
  let c262 : Index := 262#32
  ![v4722.toNat, 262]
def k0_off264 (i : grid0.Coords) : Fin 2 → Nat :=
  let arg0 : BitVec 32 := BitVec.ofNat 32 (i 0).val
  let v4738 : Index := Scalar.indexCast arg0
  let c263 : Index := 263#32
  ![v4738.toNat, 263]
def k0_off265 (i : grid0.Coords) : Fin 2 → Nat :=
  let arg0 : BitVec 32 := BitVec.ofNat 32 (i 0).val
  let v4758 : Index := Scalar.indexCast arg0
  let c264 : Index := 264#32
  ![v4758.toNat, 264]
def k0_off266 (i : grid0.Coords) : Fin 2 → Nat :=
  let arg0 : BitVec 32 := BitVec.ofNat 32 (i 0).val
  let v4774 : Index := Scalar.indexCast arg0
  let c265 : Index := 265#32
  ![v4774.toNat, 265]
def k0_off267 (i : grid0.Coords) : Fin 2 → Nat :=
  let arg0 : BitVec 32 := BitVec.ofNat 32 (i 0).val
  let v4794 : Index := Scalar.indexCast arg0
  let c266 : Index := 266#32
  ![v4794.toNat, 266]
def k0_off268 (i : grid0.Coords) : Fin 2 → Nat :=
  let arg0 : BitVec 32 := BitVec.ofNat 32 (i 0).val
  let v4810 : Index := Scalar.indexCast arg0
  let c267 : Index := 267#32
  ![v4810.toNat, 267]
def k0_off269 (i : grid0.Coords) : Fin 2 → Nat :=
  let arg0 : BitVec 32 := BitVec.ofNat 32 (i 0).val
  let v4830 : Index := Scalar.indexCast arg0
  let c268 : Index := 268#32
  ![v4830.toNat, 268]
def k0_off270 (i : grid0.Coords) : Fin 2 → Nat :=
  let arg0 : BitVec 32 := BitVec.ofNat 32 (i 0).val
  let v4846 : Index := Scalar.indexCast arg0
  let c269 : Index := 269#32
  ![v4846.toNat, 269]
def k0_off271 (i : grid0.Coords) : Fin 2 → Nat :=
  let arg0 : BitVec 32 := BitVec.ofNat 32 (i 0).val
  let v4866 : Index := Scalar.indexCast arg0
  let c270 : Index := 270#32
  ![v4866.toNat, 270]
def k0_off272 (i : grid0.Coords) : Fin 2 → Nat :=
  let arg0 : BitVec 32 := BitVec.ofNat 32 (i 0).val
  let v4882 : Index := Scalar.indexCast arg0
  let c271 : Index := 271#32
  ![v4882.toNat, 271]
def k0_off273 (i : grid0.Coords) : Fin 2 → Nat :=
  let arg0 : BitVec 32 := BitVec.ofNat 32 (i 0).val
  let v4902 : Index := Scalar.indexCast arg0
  let c272 : Index := 272#32
  ![v4902.toNat, 272]
def k0_off274 (i : grid0.Coords) : Fin 2 → Nat :=
  let arg0 : BitVec 32 := BitVec.ofNat 32 (i 0).val
  let v4918 : Index := Scalar.indexCast arg0
  let c273 : Index := 273#32
  ![v4918.toNat, 273]
def k0_off275 (i : grid0.Coords) : Fin 2 → Nat :=
  let arg0 : BitVec 32 := BitVec.ofNat 32 (i 0).val
  let v4938 : Index := Scalar.indexCast arg0
  let c274 : Index := 274#32
  ![v4938.toNat, 274]
def k0_off276 (i : grid0.Coords) : Fin 2 → Nat :=
  let arg0 : BitVec 32 := BitVec.ofNat 32 (i 0).val
  let v4954 : Index := Scalar.indexCast arg0
  let c275 : Index := 275#32
  ![v4954.toNat, 275]
def k0_off277 (i : grid0.Coords) : Fin 2 → Nat :=
  let arg0 : BitVec 32 := BitVec.ofNat 32 (i 0).val
  let v4974 : Index := Scalar.indexCast arg0
  let c276 : Index := 276#32
  ![v4974.toNat, 276]
def k0_off278 (i : grid0.Coords) : Fin 2 → Nat :=
  let arg0 : BitVec 32 := BitVec.ofNat 32 (i 0).val
  let v4990 : Index := Scalar.indexCast arg0
  let c277 : Index := 277#32
  ![v4990.toNat, 277]
def k0_off279 (i : grid0.Coords) : Fin 2 → Nat :=
  let arg0 : BitVec 32 := BitVec.ofNat 32 (i 0).val
  let v5010 : Index := Scalar.indexCast arg0
  let c278 : Index := 278#32
  ![v5010.toNat, 278]
def k0_off280 (i : grid0.Coords) : Fin 2 → Nat :=
  let arg0 : BitVec 32 := BitVec.ofNat 32 (i 0).val
  let v5026 : Index := Scalar.indexCast arg0
  let c279 : Index := 279#32
  ![v5026.toNat, 279]
def k0_off281 (i : grid0.Coords) : Fin 2 → Nat :=
  let arg0 : BitVec 32 := BitVec.ofNat 32 (i 0).val
  let v5046 : Index := Scalar.indexCast arg0
  let c280 : Index := 280#32
  ![v5046.toNat, 280]
def k0_off282 (i : grid0.Coords) : Fin 2 → Nat :=
  let arg0 : BitVec 32 := BitVec.ofNat 32 (i 0).val
  let v5062 : Index := Scalar.indexCast arg0
  let c281 : Index := 281#32
  ![v5062.toNat, 281]
def k0_off283 (i : grid0.Coords) : Fin 2 → Nat :=
  let arg0 : BitVec 32 := BitVec.ofNat 32 (i 0).val
  let v5082 : Index := Scalar.indexCast arg0
  let c282 : Index := 282#32
  ![v5082.toNat, 282]
def k0_off284 (i : grid0.Coords) : Fin 2 → Nat :=
  let arg0 : BitVec 32 := BitVec.ofNat 32 (i 0).val
  let v5098 : Index := Scalar.indexCast arg0
  let c283 : Index := 283#32
  ![v5098.toNat, 283]
def k0_off285 (i : grid0.Coords) : Fin 2 → Nat :=
  let arg0 : BitVec 32 := BitVec.ofNat 32 (i 0).val
  let v5118 : Index := Scalar.indexCast arg0
  let c284 : Index := 284#32
  ![v5118.toNat, 284]
def k0_off286 (i : grid0.Coords) : Fin 2 → Nat :=
  let arg0 : BitVec 32 := BitVec.ofNat 32 (i 0).val
  let v5134 : Index := Scalar.indexCast arg0
  let c285 : Index := 285#32
  ![v5134.toNat, 285]
def k0_off287 (i : grid0.Coords) : Fin 2 → Nat :=
  let arg0 : BitVec 32 := BitVec.ofNat 32 (i 0).val
  let v5154 : Index := Scalar.indexCast arg0
  let c286 : Index := 286#32
  ![v5154.toNat, 286]
def k0_off288 (i : grid0.Coords) : Fin 2 → Nat :=
  let arg0 : BitVec 32 := BitVec.ofNat 32 (i 0).val
  let v5170 : Index := Scalar.indexCast arg0
  let c287 : Index := 287#32
  ![v5170.toNat, 287]
def k0_off289 (i : grid0.Coords) : Fin 1 → Nat :=
  let arg0 : BitVec 32 := BitVec.ofNat 32 (i 0).val
  let v5339 : Index := Scalar.indexCast arg0
  ![v5339.toNat]
def k0_off290 (i : grid0.Coords) : Fin 2 → Nat :=
  let arg0 : BitVec 32 := BitVec.ofNat 32 (i 0).val
  let v5348 : Index := Scalar.indexCast arg0
  let c0_2745 : Index := 0#32
  ![v5348.toNat, 0]
def k0_off291 (i : grid0.Coords) : Fin 2 → Nat :=
  let arg0 : BitVec 32 := BitVec.ofNat 32 (i 0).val
  let v5356 : Index := Scalar.indexCast arg0
  let c1_2749 : Index := 1#32
  ![v5356.toNat, 1]
def k0_off292 (i : grid0.Coords) : Fin 2 → Nat :=
  let arg0 : BitVec 32 := BitVec.ofNat 32 (i 0).val
  let v5364 : Index := Scalar.indexCast arg0
  let c2_2753 : Index := 2#32
  ![v5364.toNat, 2]
def k0_off293 (i : grid0.Coords) : Fin 2 → Nat :=
  let arg0 : BitVec 32 := BitVec.ofNat 32 (i 0).val
  let v5384 : Index := Scalar.indexCast arg0
  let c3_2762 : Index := 3#32
  ![v5384.toNat, 3]
def k0_off294 (i : grid0.Coords) : Fin 2 → Nat :=
  let arg0 : BitVec 32 := BitVec.ofNat 32 (i 0).val
  let v5392 : Index := Scalar.indexCast arg0
  let c4_2766 : Index := 4#32
  ![v5392.toNat, 4]
def k0_off295 (i : grid0.Coords) : Fin 2 → Nat :=
  let arg0 : BitVec 32 := BitVec.ofNat 32 (i 0).val
  let v5400 : Index := Scalar.indexCast arg0
  let c5_2770 : Index := 5#32
  ![v5400.toNat, 5]
def k0_off296 (i : grid0.Coords) : Fin 2 → Nat :=
  let arg0 : BitVec 32 := BitVec.ofNat 32 (i 0).val
  let v5420 : Index := Scalar.indexCast arg0
  let c6_2779 : Index := 6#32
  ![v5420.toNat, 6]
def k0_off297 (i : grid0.Coords) : Fin 2 → Nat :=
  let arg0 : BitVec 32 := BitVec.ofNat 32 (i 0).val
  let v5428 : Index := Scalar.indexCast arg0
  let c7_2783 : Index := 7#32
  ![v5428.toNat, 7]
def k0_off298 (i : grid0.Coords) : Fin 2 → Nat :=
  let arg0 : BitVec 32 := BitVec.ofNat 32 (i 0).val
  let v5436 : Index := Scalar.indexCast arg0
  let c8_2787 : Index := 8#32
  ![v5436.toNat, 8]
def k0_off299 (i : grid0.Coords) : Fin 2 → Nat :=
  let arg0 : BitVec 32 := BitVec.ofNat 32 (i 0).val
  let v5456 : Index := Scalar.indexCast arg0
  let c9_2796 : Index := 9#32
  ![v5456.toNat, 9]
def k0_off300 (i : grid0.Coords) : Fin 2 → Nat :=
  let arg0 : BitVec 32 := BitVec.ofNat 32 (i 0).val
  let v5464 : Index := Scalar.indexCast arg0
  let c10_2800 : Index := 10#32
  ![v5464.toNat, 10]
def k0_off301 (i : grid0.Coords) : Fin 2 → Nat :=
  let arg0 : BitVec 32 := BitVec.ofNat 32 (i 0).val
  let v5472 : Index := Scalar.indexCast arg0
  let c11_2804 : Index := 11#32
  ![v5472.toNat, 11]
def k0_off302 (i : grid0.Coords) : Fin 2 → Nat :=
  let arg0 : BitVec 32 := BitVec.ofNat 32 (i 0).val
  let v5492 : Index := Scalar.indexCast arg0
  let c12_2813 : Index := 12#32
  ![v5492.toNat, 12]
def k0_off303 (i : grid0.Coords) : Fin 2 → Nat :=
  let arg0 : BitVec 32 := BitVec.ofNat 32 (i 0).val
  let v5500 : Index := Scalar.indexCast arg0
  let c13_2817 : Index := 13#32
  ![v5500.toNat, 13]
def k0_off304 (i : grid0.Coords) : Fin 2 → Nat :=
  let arg0 : BitVec 32 := BitVec.ofNat 32 (i 0).val
  let v5508 : Index := Scalar.indexCast arg0
  let c14_2821 : Index := 14#32
  ![v5508.toNat, 14]
def k0_off305 (i : grid0.Coords) : Fin 2 → Nat :=
  let arg0 : BitVec 32 := BitVec.ofNat 32 (i 0).val
  let v5528 : Index := Scalar.indexCast arg0
  let c15_2830 : Index := 15#32
  ![v5528.toNat, 15]
def k0_off306 (i : grid0.Coords) : Fin 2 → Nat :=
  let arg0 : BitVec 32 := BitVec.ofNat 32 (i 0).val
  let v5536 : Index := Scalar.indexCast arg0
  let c16_2834 : Index := 16#32
  ![v5536.toNat, 16]
def k0_off307 (i : grid0.Coords) : Fin 2 → Nat :=
  let arg0 : BitVec 32 := BitVec.ofNat 32 (i 0).val
  let v5544 : Index := Scalar.indexCast arg0
  let c17_2838 : Index := 17#32
  ![v5544.toNat, 17]
def k0_off308 (i : grid0.Coords) : Fin 2 → Nat :=
  let arg0 : BitVec 32 := BitVec.ofNat 32 (i 0).val
  let v5564 : Index := Scalar.indexCast arg0
  let c18_2847 : Index := 18#32
  ![v5564.toNat, 18]
def k0_off309 (i : grid0.Coords) : Fin 2 → Nat :=
  let arg0 : BitVec 32 := BitVec.ofNat 32 (i 0).val
  let v5572 : Index := Scalar.indexCast arg0
  let c19_2851 : Index := 19#32
  ![v5572.toNat, 19]
def k0_off310 (i : grid0.Coords) : Fin 2 → Nat :=
  let arg0 : BitVec 32 := BitVec.ofNat 32 (i 0).val
  let v5580 : Index := Scalar.indexCast arg0
  let c20_2855 : Index := 20#32
  ![v5580.toNat, 20]
def k0_off311 (i : grid0.Coords) : Fin 2 → Nat :=
  let arg0 : BitVec 32 := BitVec.ofNat 32 (i 0).val
  let v5600 : Index := Scalar.indexCast arg0
  let c21_2864 : Index := 21#32
  ![v5600.toNat, 21]
def k0_off312 (i : grid0.Coords) : Fin 2 → Nat :=
  let arg0 : BitVec 32 := BitVec.ofNat 32 (i 0).val
  let v5608 : Index := Scalar.indexCast arg0
  let c22_2868 : Index := 22#32
  ![v5608.toNat, 22]
def k0_off313 (i : grid0.Coords) : Fin 2 → Nat :=
  let arg0 : BitVec 32 := BitVec.ofNat 32 (i 0).val
  let v5616 : Index := Scalar.indexCast arg0
  let c23_2872 : Index := 23#32
  ![v5616.toNat, 23]
def k0_off314 (i : grid0.Coords) : Fin 2 → Nat :=
  let arg0 : BitVec 32 := BitVec.ofNat 32 (i 0).val
  let v5636 : Index := Scalar.indexCast arg0
  let c24_2881 : Index := 24#32
  ![v5636.toNat, 24]
def k0_off315 (i : grid0.Coords) : Fin 2 → Nat :=
  let arg0 : BitVec 32 := BitVec.ofNat 32 (i 0).val
  let v5644 : Index := Scalar.indexCast arg0
  let c25_2885 : Index := 25#32
  ![v5644.toNat, 25]
def k0_off316 (i : grid0.Coords) : Fin 2 → Nat :=
  let arg0 : BitVec 32 := BitVec.ofNat 32 (i 0).val
  let v5652 : Index := Scalar.indexCast arg0
  let c26_2889 : Index := 26#32
  ![v5652.toNat, 26]
def k0_off317 (i : grid0.Coords) : Fin 2 → Nat :=
  let arg0 : BitVec 32 := BitVec.ofNat 32 (i 0).val
  let v5672 : Index := Scalar.indexCast arg0
  let c27_2898 : Index := 27#32
  ![v5672.toNat, 27]
def k0_off318 (i : grid0.Coords) : Fin 2 → Nat :=
  let arg0 : BitVec 32 := BitVec.ofNat 32 (i 0).val
  let v5680 : Index := Scalar.indexCast arg0
  let c28_2902 : Index := 28#32
  ![v5680.toNat, 28]
def k0_off319 (i : grid0.Coords) : Fin 2 → Nat :=
  let arg0 : BitVec 32 := BitVec.ofNat 32 (i 0).val
  let v5688 : Index := Scalar.indexCast arg0
  let c29_2906 : Index := 29#32
  ![v5688.toNat, 29]
def k0_off320 (i : grid0.Coords) : Fin 2 → Nat :=
  let arg0 : BitVec 32 := BitVec.ofNat 32 (i 0).val
  let v5708 : Index := Scalar.indexCast arg0
  let c30_2915 : Index := 30#32
  ![v5708.toNat, 30]
def k0_off321 (i : grid0.Coords) : Fin 2 → Nat :=
  let arg0 : BitVec 32 := BitVec.ofNat 32 (i 0).val
  let v5716 : Index := Scalar.indexCast arg0
  let c31_2919 : Index := 31#32
  ![v5716.toNat, 31]
def k0_off322 (i : grid0.Coords) : Fin 2 → Nat :=
  let arg0 : BitVec 32 := BitVec.ofNat 32 (i 0).val
  let v5724 : Index := Scalar.indexCast arg0
  let c32_2923 : Index := 32#32
  ![v5724.toNat, 32]
def k0_off323 (i : grid0.Coords) : Fin 2 → Nat :=
  let arg0 : BitVec 32 := BitVec.ofNat 32 (i 0).val
  let v5744 : Index := Scalar.indexCast arg0
  let c33_2932 : Index := 33#32
  ![v5744.toNat, 33]
def k0_off324 (i : grid0.Coords) : Fin 2 → Nat :=
  let arg0 : BitVec 32 := BitVec.ofNat 32 (i 0).val
  let v5752 : Index := Scalar.indexCast arg0
  let c34_2936 : Index := 34#32
  ![v5752.toNat, 34]
def k0_off325 (i : grid0.Coords) : Fin 2 → Nat :=
  let arg0 : BitVec 32 := BitVec.ofNat 32 (i 0).val
  let v5760 : Index := Scalar.indexCast arg0
  let c35_2940 : Index := 35#32
  ![v5760.toNat, 35]
def k0_off326 (i : grid0.Coords) : Fin 2 → Nat :=
  let arg0 : BitVec 32 := BitVec.ofNat 32 (i 0).val
  let v5780 : Index := Scalar.indexCast arg0
  let c36_2949 : Index := 36#32
  ![v5780.toNat, 36]
def k0_off327 (i : grid0.Coords) : Fin 2 → Nat :=
  let arg0 : BitVec 32 := BitVec.ofNat 32 (i 0).val
  let v5788 : Index := Scalar.indexCast arg0
  let c37_2953 : Index := 37#32
  ![v5788.toNat, 37]
def k0_off328 (i : grid0.Coords) : Fin 2 → Nat :=
  let arg0 : BitVec 32 := BitVec.ofNat 32 (i 0).val
  let v5796 : Index := Scalar.indexCast arg0
  let c38_2957 : Index := 38#32
  ![v5796.toNat, 38]
def k0_off329 (i : grid0.Coords) : Fin 2 → Nat :=
  let arg0 : BitVec 32 := BitVec.ofNat 32 (i 0).val
  let v5816 : Index := Scalar.indexCast arg0
  let c39_2966 : Index := 39#32
  ![v5816.toNat, 39]
def k0_off330 (i : grid0.Coords) : Fin 2 → Nat :=
  let arg0 : BitVec 32 := BitVec.ofNat 32 (i 0).val
  let v5824 : Index := Scalar.indexCast arg0
  let c40_2970 : Index := 40#32
  ![v5824.toNat, 40]
def k0_off331 (i : grid0.Coords) : Fin 2 → Nat :=
  let arg0 : BitVec 32 := BitVec.ofNat 32 (i 0).val
  let v5832 : Index := Scalar.indexCast arg0
  let c41_2974 : Index := 41#32
  ![v5832.toNat, 41]
def k0_off332 (i : grid0.Coords) : Fin 2 → Nat :=
  let arg0 : BitVec 32 := BitVec.ofNat 32 (i 0).val
  let v5852 : Index := Scalar.indexCast arg0
  let c42_2983 : Index := 42#32
  ![v5852.toNat, 42]
def k0_off333 (i : grid0.Coords) : Fin 2 → Nat :=
  let arg0 : BitVec 32 := BitVec.ofNat 32 (i 0).val
  let v5860 : Index := Scalar.indexCast arg0
  let c43_2987 : Index := 43#32
  ![v5860.toNat, 43]
def k0_off334 (i : grid0.Coords) : Fin 2 → Nat :=
  let arg0 : BitVec 32 := BitVec.ofNat 32 (i 0).val
  let v5868 : Index := Scalar.indexCast arg0
  let c44_2991 : Index := 44#32
  ![v5868.toNat, 44]
def k0_off335 (i : grid0.Coords) : Fin 2 → Nat :=
  let arg0 : BitVec 32 := BitVec.ofNat 32 (i 0).val
  let v5888 : Index := Scalar.indexCast arg0
  let c45_3000 : Index := 45#32
  ![v5888.toNat, 45]
def k0_off336 (i : grid0.Coords) : Fin 2 → Nat :=
  let arg0 : BitVec 32 := BitVec.ofNat 32 (i 0).val
  let v5896 : Index := Scalar.indexCast arg0
  let c46_3004 : Index := 46#32
  ![v5896.toNat, 46]
def k0_off337 (i : grid0.Coords) : Fin 2 → Nat :=
  let arg0 : BitVec 32 := BitVec.ofNat 32 (i 0).val
  let v5904 : Index := Scalar.indexCast arg0
  let c47_3008 : Index := 47#32
  ![v5904.toNat, 47]
def k0_off338 (i : grid0.Coords) : Fin 2 → Nat :=
  let arg0 : BitVec 32 := BitVec.ofNat 32 (i 0).val
  let v5924 : Index := Scalar.indexCast arg0
  let c48_3017 : Index := 48#32
  ![v5924.toNat, 48]
def k0_off339 (i : grid0.Coords) : Fin 2 → Nat :=
  let arg0 : BitVec 32 := BitVec.ofNat 32 (i 0).val
  let v5932 : Index := Scalar.indexCast arg0
  let c49_3021 : Index := 49#32
  ![v5932.toNat, 49]
def k0_off340 (i : grid0.Coords) : Fin 2 → Nat :=
  let arg0 : BitVec 32 := BitVec.ofNat 32 (i 0).val
  let v5940 : Index := Scalar.indexCast arg0
  let c50_3025 : Index := 50#32
  ![v5940.toNat, 50]
def k0_off341 (i : grid0.Coords) : Fin 2 → Nat :=
  let arg0 : BitVec 32 := BitVec.ofNat 32 (i 0).val
  let v5960 : Index := Scalar.indexCast arg0
  let c51_3034 : Index := 51#32
  ![v5960.toNat, 51]
def k0_off342 (i : grid0.Coords) : Fin 2 → Nat :=
  let arg0 : BitVec 32 := BitVec.ofNat 32 (i 0).val
  let v5968 : Index := Scalar.indexCast arg0
  let c52_3038 : Index := 52#32
  ![v5968.toNat, 52]
def k0_off343 (i : grid0.Coords) : Fin 2 → Nat :=
  let arg0 : BitVec 32 := BitVec.ofNat 32 (i 0).val
  let v5976 : Index := Scalar.indexCast arg0
  let c53_3042 : Index := 53#32
  ![v5976.toNat, 53]
def k0_off344 (i : grid0.Coords) : Fin 2 → Nat :=
  let arg0 : BitVec 32 := BitVec.ofNat 32 (i 0).val
  let v5996 : Index := Scalar.indexCast arg0
  let c54_3051 : Index := 54#32
  ![v5996.toNat, 54]
def k0_off345 (i : grid0.Coords) : Fin 2 → Nat :=
  let arg0 : BitVec 32 := BitVec.ofNat 32 (i 0).val
  let v6004 : Index := Scalar.indexCast arg0
  let c55_3055 : Index := 55#32
  ![v6004.toNat, 55]
def k0_off346 (i : grid0.Coords) : Fin 2 → Nat :=
  let arg0 : BitVec 32 := BitVec.ofNat 32 (i 0).val
  let v6012 : Index := Scalar.indexCast arg0
  let c56_3059 : Index := 56#32
  ![v6012.toNat, 56]
def k0_off347 (i : grid0.Coords) : Fin 2 → Nat :=
  let arg0 : BitVec 32 := BitVec.ofNat 32 (i 0).val
  let v6032 : Index := Scalar.indexCast arg0
  let c57_3068 : Index := 57#32
  ![v6032.toNat, 57]
def k0_off348 (i : grid0.Coords) : Fin 2 → Nat :=
  let arg0 : BitVec 32 := BitVec.ofNat 32 (i 0).val
  let v6040 : Index := Scalar.indexCast arg0
  let c58_3072 : Index := 58#32
  ![v6040.toNat, 58]
def k0_off349 (i : grid0.Coords) : Fin 2 → Nat :=
  let arg0 : BitVec 32 := BitVec.ofNat 32 (i 0).val
  let v6048 : Index := Scalar.indexCast arg0
  let c59_3076 : Index := 59#32
  ![v6048.toNat, 59]
def k0_off350 (i : grid0.Coords) : Fin 2 → Nat :=
  let arg0 : BitVec 32 := BitVec.ofNat 32 (i 0).val
  let v6068 : Index := Scalar.indexCast arg0
  let c60_3085 : Index := 60#32
  ![v6068.toNat, 60]
def k0_off351 (i : grid0.Coords) : Fin 2 → Nat :=
  let arg0 : BitVec 32 := BitVec.ofNat 32 (i 0).val
  let v6076 : Index := Scalar.indexCast arg0
  let c61_3089 : Index := 61#32
  ![v6076.toNat, 61]
def k0_off352 (i : grid0.Coords) : Fin 2 → Nat :=
  let arg0 : BitVec 32 := BitVec.ofNat 32 (i 0).val
  let v6084 : Index := Scalar.indexCast arg0
  let c62_3093 : Index := 62#32
  ![v6084.toNat, 62]
def k0_off353 (i : grid0.Coords) : Fin 2 → Nat :=
  let arg0 : BitVec 32 := BitVec.ofNat 32 (i 0).val
  let v6104 : Index := Scalar.indexCast arg0
  let c63_3102 : Index := 63#32
  ![v6104.toNat, 63]
def k0_off354 (i : grid0.Coords) : Fin 2 → Nat :=
  let arg0 : BitVec 32 := BitVec.ofNat 32 (i 0).val
  let v6112 : Index := Scalar.indexCast arg0
  let c64_3106 : Index := 64#32
  ![v6112.toNat, 64]
def k0_off355 (i : grid0.Coords) : Fin 2 → Nat :=
  let arg0 : BitVec 32 := BitVec.ofNat 32 (i 0).val
  let v6120 : Index := Scalar.indexCast arg0
  let c65_3110 : Index := 65#32
  ![v6120.toNat, 65]
def k0_off356 (i : grid0.Coords) : Fin 2 → Nat :=
  let arg0 : BitVec 32 := BitVec.ofNat 32 (i 0).val
  let v6140 : Index := Scalar.indexCast arg0
  let c66_3119 : Index := 66#32
  ![v6140.toNat, 66]
def k0_off357 (i : grid0.Coords) : Fin 2 → Nat :=
  let arg0 : BitVec 32 := BitVec.ofNat 32 (i 0).val
  let v6148 : Index := Scalar.indexCast arg0
  let c67_3123 : Index := 67#32
  ![v6148.toNat, 67]
def k0_off358 (i : grid0.Coords) : Fin 2 → Nat :=
  let arg0 : BitVec 32 := BitVec.ofNat 32 (i 0).val
  let v6156 : Index := Scalar.indexCast arg0
  let c68_3127 : Index := 68#32
  ![v6156.toNat, 68]
def k0_off359 (i : grid0.Coords) : Fin 2 → Nat :=
  let arg0 : BitVec 32 := BitVec.ofNat 32 (i 0).val
  let v6176 : Index := Scalar.indexCast arg0
  let c69_3136 : Index := 69#32
  ![v6176.toNat, 69]
def k0_off360 (i : grid0.Coords) : Fin 2 → Nat :=
  let arg0 : BitVec 32 := BitVec.ofNat 32 (i 0).val
  let v6184 : Index := Scalar.indexCast arg0
  let c70_3140 : Index := 70#32
  ![v6184.toNat, 70]
def k0_off361 (i : grid0.Coords) : Fin 2 → Nat :=
  let arg0 : BitVec 32 := BitVec.ofNat 32 (i 0).val
  let v6192 : Index := Scalar.indexCast arg0
  let c71_3144 : Index := 71#32
  ![v6192.toNat, 71]
def k0_off362 (i : grid0.Coords) : Fin 2 → Nat :=
  let arg0 : BitVec 32 := BitVec.ofNat 32 (i 0).val
  let v6212 : Index := Scalar.indexCast arg0
  let c72_3153 : Index := 72#32
  ![v6212.toNat, 72]
def k0_off363 (i : grid0.Coords) : Fin 2 → Nat :=
  let arg0 : BitVec 32 := BitVec.ofNat 32 (i 0).val
  let v6220 : Index := Scalar.indexCast arg0
  let c73_3157 : Index := 73#32
  ![v6220.toNat, 73]
def k0_off364 (i : grid0.Coords) : Fin 2 → Nat :=
  let arg0 : BitVec 32 := BitVec.ofNat 32 (i 0).val
  let v6228 : Index := Scalar.indexCast arg0
  let c74_3161 : Index := 74#32
  ![v6228.toNat, 74]
def k0_off365 (i : grid0.Coords) : Fin 2 → Nat :=
  let arg0 : BitVec 32 := BitVec.ofNat 32 (i 0).val
  let v6248 : Index := Scalar.indexCast arg0
  let c75_3170 : Index := 75#32
  ![v6248.toNat, 75]
def k0_off366 (i : grid0.Coords) : Fin 2 → Nat :=
  let arg0 : BitVec 32 := BitVec.ofNat 32 (i 0).val
  let v6256 : Index := Scalar.indexCast arg0
  let c76_3174 : Index := 76#32
  ![v6256.toNat, 76]
def k0_off367 (i : grid0.Coords) : Fin 2 → Nat :=
  let arg0 : BitVec 32 := BitVec.ofNat 32 (i 0).val
  let v6264 : Index := Scalar.indexCast arg0
  let c77_3178 : Index := 77#32
  ![v6264.toNat, 77]
def k0_off368 (i : grid0.Coords) : Fin 2 → Nat :=
  let arg0 : BitVec 32 := BitVec.ofNat 32 (i 0).val
  let v6284 : Index := Scalar.indexCast arg0
  let c78_3187 : Index := 78#32
  ![v6284.toNat, 78]
def k0_off369 (i : grid0.Coords) : Fin 2 → Nat :=
  let arg0 : BitVec 32 := BitVec.ofNat 32 (i 0).val
  let v6292 : Index := Scalar.indexCast arg0
  let c79_3191 : Index := 79#32
  ![v6292.toNat, 79]
def k0_off370 (i : grid0.Coords) : Fin 2 → Nat :=
  let arg0 : BitVec 32 := BitVec.ofNat 32 (i 0).val
  let v6300 : Index := Scalar.indexCast arg0
  let c80_3195 : Index := 80#32
  ![v6300.toNat, 80]
def k0_off371 (i : grid0.Coords) : Fin 2 → Nat :=
  let arg0 : BitVec 32 := BitVec.ofNat 32 (i 0).val
  let v6320 : Index := Scalar.indexCast arg0
  let c81_3204 : Index := 81#32
  ![v6320.toNat, 81]
def k0_off372 (i : grid0.Coords) : Fin 2 → Nat :=
  let arg0 : BitVec 32 := BitVec.ofNat 32 (i 0).val
  let v6328 : Index := Scalar.indexCast arg0
  let c82_3208 : Index := 82#32
  ![v6328.toNat, 82]
def k0_off373 (i : grid0.Coords) : Fin 2 → Nat :=
  let arg0 : BitVec 32 := BitVec.ofNat 32 (i 0).val
  let v6336 : Index := Scalar.indexCast arg0
  let c83_3212 : Index := 83#32
  ![v6336.toNat, 83]
def k0_off374 (i : grid0.Coords) : Fin 2 → Nat :=
  let arg0 : BitVec 32 := BitVec.ofNat 32 (i 0).val
  let v6356 : Index := Scalar.indexCast arg0
  let c84_3221 : Index := 84#32
  ![v6356.toNat, 84]
def k0_off375 (i : grid0.Coords) : Fin 2 → Nat :=
  let arg0 : BitVec 32 := BitVec.ofNat 32 (i 0).val
  let v6364 : Index := Scalar.indexCast arg0
  let c85_3225 : Index := 85#32
  ![v6364.toNat, 85]
def k0_off376 (i : grid0.Coords) : Fin 2 → Nat :=
  let arg0 : BitVec 32 := BitVec.ofNat 32 (i 0).val
  let v6372 : Index := Scalar.indexCast arg0
  let c86_3229 : Index := 86#32
  ![v6372.toNat, 86]
def k0_off377 (i : grid0.Coords) : Fin 2 → Nat :=
  let arg0 : BitVec 32 := BitVec.ofNat 32 (i 0).val
  let v6392 : Index := Scalar.indexCast arg0
  let c87_3238 : Index := 87#32
  ![v6392.toNat, 87]
def k0_off378 (i : grid0.Coords) : Fin 2 → Nat :=
  let arg0 : BitVec 32 := BitVec.ofNat 32 (i 0).val
  let v6400 : Index := Scalar.indexCast arg0
  let c88_3242 : Index := 88#32
  ![v6400.toNat, 88]
def k0_off379 (i : grid0.Coords) : Fin 2 → Nat :=
  let arg0 : BitVec 32 := BitVec.ofNat 32 (i 0).val
  let v6408 : Index := Scalar.indexCast arg0
  let c89_3246 : Index := 89#32
  ![v6408.toNat, 89]
def k0_off380 (i : grid0.Coords) : Fin 2 → Nat :=
  let arg0 : BitVec 32 := BitVec.ofNat 32 (i 0).val
  let v6428 : Index := Scalar.indexCast arg0
  let c90_3255 : Index := 90#32
  ![v6428.toNat, 90]
def k0_off381 (i : grid0.Coords) : Fin 2 → Nat :=
  let arg0 : BitVec 32 := BitVec.ofNat 32 (i 0).val
  let v6436 : Index := Scalar.indexCast arg0
  let c91_3259 : Index := 91#32
  ![v6436.toNat, 91]
def k0_off382 (i : grid0.Coords) : Fin 2 → Nat :=
  let arg0 : BitVec 32 := BitVec.ofNat 32 (i 0).val
  let v6444 : Index := Scalar.indexCast arg0
  let c92_3263 : Index := 92#32
  ![v6444.toNat, 92]
def k0_off383 (i : grid0.Coords) : Fin 2 → Nat :=
  let arg0 : BitVec 32 := BitVec.ofNat 32 (i 0).val
  let v6464 : Index := Scalar.indexCast arg0
  let c93_3272 : Index := 93#32
  ![v6464.toNat, 93]
def k0_off384 (i : grid0.Coords) : Fin 2 → Nat :=
  let arg0 : BitVec 32 := BitVec.ofNat 32 (i 0).val
  let v6472 : Index := Scalar.indexCast arg0
  let c94_3276 : Index := 94#32
  ![v6472.toNat, 94]
def k0_off385 (i : grid0.Coords) : Fin 2 → Nat :=
  let arg0 : BitVec 32 := BitVec.ofNat 32 (i 0).val
  let v6480 : Index := Scalar.indexCast arg0
  let c95_3280 : Index := 95#32
  ![v6480.toNat, 95]
def k0_off386 (i : grid0.Coords) : Fin 2 → Nat :=
  let arg0 : BitVec 32 := BitVec.ofNat 32 (i 0).val
  let v6500 : Index := Scalar.indexCast arg0
  let c96_3289 : Index := 96#32
  ![v6500.toNat, 96]
def k0_off387 (i : grid0.Coords) : Fin 2 → Nat :=
  let arg0 : BitVec 32 := BitVec.ofNat 32 (i 0).val
  let v6508 : Index := Scalar.indexCast arg0
  let c97_3293 : Index := 97#32
  ![v6508.toNat, 97]
def k0_off388 (i : grid0.Coords) : Fin 2 → Nat :=
  let arg0 : BitVec 32 := BitVec.ofNat 32 (i 0).val
  let v6516 : Index := Scalar.indexCast arg0
  let c98_3297 : Index := 98#32
  ![v6516.toNat, 98]
def k0_off389 (i : grid0.Coords) : Fin 2 → Nat :=
  let arg0 : BitVec 32 := BitVec.ofNat 32 (i 0).val
  let v6536 : Index := Scalar.indexCast arg0
  let c99_3306 : Index := 99#32
  ![v6536.toNat, 99]
def k0_off390 (i : grid0.Coords) : Fin 2 → Nat :=
  let arg0 : BitVec 32 := BitVec.ofNat 32 (i 0).val
  let v6544 : Index := Scalar.indexCast arg0
  let c100_3310 : Index := 100#32
  ![v6544.toNat, 100]
def k0_off391 (i : grid0.Coords) : Fin 2 → Nat :=
  let arg0 : BitVec 32 := BitVec.ofNat 32 (i 0).val
  let v6552 : Index := Scalar.indexCast arg0
  let c101_3314 : Index := 101#32
  ![v6552.toNat, 101]
def k0_off392 (i : grid0.Coords) : Fin 2 → Nat :=
  let arg0 : BitVec 32 := BitVec.ofNat 32 (i 0).val
  let v6572 : Index := Scalar.indexCast arg0
  let c102_3323 : Index := 102#32
  ![v6572.toNat, 102]
def k0_off393 (i : grid0.Coords) : Fin 2 → Nat :=
  let arg0 : BitVec 32 := BitVec.ofNat 32 (i 0).val
  let v6580 : Index := Scalar.indexCast arg0
  let c103_3327 : Index := 103#32
  ![v6580.toNat, 103]
def k0_off394 (i : grid0.Coords) : Fin 2 → Nat :=
  let arg0 : BitVec 32 := BitVec.ofNat 32 (i 0).val
  let v6588 : Index := Scalar.indexCast arg0
  let c104_3331 : Index := 104#32
  ![v6588.toNat, 104]
def k0_off395 (i : grid0.Coords) : Fin 2 → Nat :=
  let arg0 : BitVec 32 := BitVec.ofNat 32 (i 0).val
  let v6608 : Index := Scalar.indexCast arg0
  let c105_3340 : Index := 105#32
  ![v6608.toNat, 105]
def k0_off396 (i : grid0.Coords) : Fin 2 → Nat :=
  let arg0 : BitVec 32 := BitVec.ofNat 32 (i 0).val
  let v6616 : Index := Scalar.indexCast arg0
  let c106_3344 : Index := 106#32
  ![v6616.toNat, 106]
def k0_off397 (i : grid0.Coords) : Fin 2 → Nat :=
  let arg0 : BitVec 32 := BitVec.ofNat 32 (i 0).val
  let v6624 : Index := Scalar.indexCast arg0
  let c107_3348 : Index := 107#32
  ![v6624.toNat, 107]
def k0_off398 (i : grid0.Coords) : Fin 2 → Nat :=
  let arg0 : BitVec 32 := BitVec.ofNat 32 (i 0).val
  let v6644 : Index := Scalar.indexCast arg0
  let c108_3357 : Index := 108#32
  ![v6644.toNat, 108]
def k0_off399 (i : grid0.Coords) : Fin 2 → Nat :=
  let arg0 : BitVec 32 := BitVec.ofNat 32 (i 0).val
  let v6652 : Index := Scalar.indexCast arg0
  let c109_3361 : Index := 109#32
  ![v6652.toNat, 109]
def k0_off400 (i : grid0.Coords) : Fin 2 → Nat :=
  let arg0 : BitVec 32 := BitVec.ofNat 32 (i 0).val
  let v6660 : Index := Scalar.indexCast arg0
  let c110_3365 : Index := 110#32
  ![v6660.toNat, 110]
def k0_off401 (i : grid0.Coords) : Fin 2 → Nat :=
  let arg0 : BitVec 32 := BitVec.ofNat 32 (i 0).val
  let v6680 : Index := Scalar.indexCast arg0
  let c111_3374 : Index := 111#32
  ![v6680.toNat, 111]
def k0_off402 (i : grid0.Coords) : Fin 2 → Nat :=
  let arg0 : BitVec 32 := BitVec.ofNat 32 (i 0).val
  let v6688 : Index := Scalar.indexCast arg0
  let c112_3378 : Index := 112#32
  ![v6688.toNat, 112]
def k0_off403 (i : grid0.Coords) : Fin 2 → Nat :=
  let arg0 : BitVec 32 := BitVec.ofNat 32 (i 0).val
  let v6696 : Index := Scalar.indexCast arg0
  let c113_3382 : Index := 113#32
  ![v6696.toNat, 113]
def k0_off404 (i : grid0.Coords) : Fin 2 → Nat :=
  let arg0 : BitVec 32 := BitVec.ofNat 32 (i 0).val
  let v6716 : Index := Scalar.indexCast arg0
  let c114_3391 : Index := 114#32
  ![v6716.toNat, 114]
def k0_off405 (i : grid0.Coords) : Fin 2 → Nat :=
  let arg0 : BitVec 32 := BitVec.ofNat 32 (i 0).val
  let v6724 : Index := Scalar.indexCast arg0
  let c115_3395 : Index := 115#32
  ![v6724.toNat, 115]
def k0_off406 (i : grid0.Coords) : Fin 2 → Nat :=
  let arg0 : BitVec 32 := BitVec.ofNat 32 (i 0).val
  let v6732 : Index := Scalar.indexCast arg0
  let c116_3399 : Index := 116#32
  ![v6732.toNat, 116]
def k0_off407 (i : grid0.Coords) : Fin 2 → Nat :=
  let arg0 : BitVec 32 := BitVec.ofNat 32 (i 0).val
  let v6752 : Index := Scalar.indexCast arg0
  let c117_3408 : Index := 117#32
  ![v6752.toNat, 117]
def k0_off408 (i : grid0.Coords) : Fin 2 → Nat :=
  let arg0 : BitVec 32 := BitVec.ofNat 32 (i 0).val
  let v6760 : Index := Scalar.indexCast arg0
  let c118_3412 : Index := 118#32
  ![v6760.toNat, 118]
def k0_off409 (i : grid0.Coords) : Fin 2 → Nat :=
  let arg0 : BitVec 32 := BitVec.ofNat 32 (i 0).val
  let v6768 : Index := Scalar.indexCast arg0
  let c119_3416 : Index := 119#32
  ![v6768.toNat, 119]
def k0_off410 (i : grid0.Coords) : Fin 2 → Nat :=
  let arg0 : BitVec 32 := BitVec.ofNat 32 (i 0).val
  let v6788 : Index := Scalar.indexCast arg0
  let c120_3425 : Index := 120#32
  ![v6788.toNat, 120]
def k0_off411 (i : grid0.Coords) : Fin 2 → Nat :=
  let arg0 : BitVec 32 := BitVec.ofNat 32 (i 0).val
  let v6796 : Index := Scalar.indexCast arg0
  let c121_3429 : Index := 121#32
  ![v6796.toNat, 121]
def k0_off412 (i : grid0.Coords) : Fin 2 → Nat :=
  let arg0 : BitVec 32 := BitVec.ofNat 32 (i 0).val
  let v6804 : Index := Scalar.indexCast arg0
  let c122_3433 : Index := 122#32
  ![v6804.toNat, 122]
def k0_off413 (i : grid0.Coords) : Fin 2 → Nat :=
  let arg0 : BitVec 32 := BitVec.ofNat 32 (i 0).val
  let v6824 : Index := Scalar.indexCast arg0
  let c123_3442 : Index := 123#32
  ![v6824.toNat, 123]
def k0_off414 (i : grid0.Coords) : Fin 2 → Nat :=
  let arg0 : BitVec 32 := BitVec.ofNat 32 (i 0).val
  let v6832 : Index := Scalar.indexCast arg0
  let c124_3446 : Index := 124#32
  ![v6832.toNat, 124]
def k0_off415 (i : grid0.Coords) : Fin 2 → Nat :=
  let arg0 : BitVec 32 := BitVec.ofNat 32 (i 0).val
  let v6840 : Index := Scalar.indexCast arg0
  let c125_3450 : Index := 125#32
  ![v6840.toNat, 125]
def k0_off416 (i : grid0.Coords) : Fin 2 → Nat :=
  let arg0 : BitVec 32 := BitVec.ofNat 32 (i 0).val
  let v6860 : Index := Scalar.indexCast arg0
  let c126_3459 : Index := 126#32
  ![v6860.toNat, 126]
def k0_off417 (i : grid0.Coords) : Fin 2 → Nat :=
  let arg0 : BitVec 32 := BitVec.ofNat 32 (i 0).val
  let v6868 : Index := Scalar.indexCast arg0
  let c127_3463 : Index := 127#32
  ![v6868.toNat, 127]
def k0_off418 (i : grid0.Coords) : Fin 2 → Nat :=
  let arg0 : BitVec 32 := BitVec.ofNat 32 (i 0).val
  let v6876 : Index := Scalar.indexCast arg0
  let c128_3467 : Index := 128#32
  ![v6876.toNat, 128]
def k0_off419 (i : grid0.Coords) : Fin 2 → Nat :=
  let arg0 : BitVec 32 := BitVec.ofNat 32 (i 0).val
  let v6896 : Index := Scalar.indexCast arg0
  let c129_3476 : Index := 129#32
  ![v6896.toNat, 129]
def k0_off420 (i : grid0.Coords) : Fin 2 → Nat :=
  let arg0 : BitVec 32 := BitVec.ofNat 32 (i 0).val
  let v6904 : Index := Scalar.indexCast arg0
  let c130_3480 : Index := 130#32
  ![v6904.toNat, 130]
def k0_off421 (i : grid0.Coords) : Fin 2 → Nat :=
  let arg0 : BitVec 32 := BitVec.ofNat 32 (i 0).val
  let v6912 : Index := Scalar.indexCast arg0
  let c131_3484 : Index := 131#32
  ![v6912.toNat, 131]
def k0_off422 (i : grid0.Coords) : Fin 2 → Nat :=
  let arg0 : BitVec 32 := BitVec.ofNat 32 (i 0).val
  let v6932 : Index := Scalar.indexCast arg0
  let c132_3493 : Index := 132#32
  ![v6932.toNat, 132]
def k0_off423 (i : grid0.Coords) : Fin 2 → Nat :=
  let arg0 : BitVec 32 := BitVec.ofNat 32 (i 0).val
  let v6940 : Index := Scalar.indexCast arg0
  let c133_3497 : Index := 133#32
  ![v6940.toNat, 133]
def k0_off424 (i : grid0.Coords) : Fin 2 → Nat :=
  let arg0 : BitVec 32 := BitVec.ofNat 32 (i 0).val
  let v6948 : Index := Scalar.indexCast arg0
  let c134_3501 : Index := 134#32
  ![v6948.toNat, 134]
def k0_off425 (i : grid0.Coords) : Fin 2 → Nat :=
  let arg0 : BitVec 32 := BitVec.ofNat 32 (i 0).val
  let v6968 : Index := Scalar.indexCast arg0
  let c135_3510 : Index := 135#32
  ![v6968.toNat, 135]
def k0_off426 (i : grid0.Coords) : Fin 2 → Nat :=
  let arg0 : BitVec 32 := BitVec.ofNat 32 (i 0).val
  let v6976 : Index := Scalar.indexCast arg0
  let c136_3514 : Index := 136#32
  ![v6976.toNat, 136]
def k0_off427 (i : grid0.Coords) : Fin 2 → Nat :=
  let arg0 : BitVec 32 := BitVec.ofNat 32 (i 0).val
  let v6984 : Index := Scalar.indexCast arg0
  let c137_3518 : Index := 137#32
  ![v6984.toNat, 137]
def k0_off428 (i : grid0.Coords) : Fin 2 → Nat :=
  let arg0 : BitVec 32 := BitVec.ofNat 32 (i 0).val
  let v7004 : Index := Scalar.indexCast arg0
  let c138_3527 : Index := 138#32
  ![v7004.toNat, 138]
def k0_off429 (i : grid0.Coords) : Fin 2 → Nat :=
  let arg0 : BitVec 32 := BitVec.ofNat 32 (i 0).val
  let v7012 : Index := Scalar.indexCast arg0
  let c139_3531 : Index := 139#32
  ![v7012.toNat, 139]
def k0_off430 (i : grid0.Coords) : Fin 2 → Nat :=
  let arg0 : BitVec 32 := BitVec.ofNat 32 (i 0).val
  let v7020 : Index := Scalar.indexCast arg0
  let c140_3535 : Index := 140#32
  ![v7020.toNat, 140]
def k0_off431 (i : grid0.Coords) : Fin 2 → Nat :=
  let arg0 : BitVec 32 := BitVec.ofNat 32 (i 0).val
  let v7040 : Index := Scalar.indexCast arg0
  let c141_3544 : Index := 141#32
  ![v7040.toNat, 141]
def k0_off432 (i : grid0.Coords) : Fin 2 → Nat :=
  let arg0 : BitVec 32 := BitVec.ofNat 32 (i 0).val
  let v7048 : Index := Scalar.indexCast arg0
  let c142_3548 : Index := 142#32
  ![v7048.toNat, 142]
def k0_off433 (i : grid0.Coords) : Fin 2 → Nat :=
  let arg0 : BitVec 32 := BitVec.ofNat 32 (i 0).val
  let v7056 : Index := Scalar.indexCast arg0
  let c143_3552 : Index := 143#32
  ![v7056.toNat, 143]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x204x6144 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x204x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x204x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x6144 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S80x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6144x384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S80x144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x204x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S80x204x6144 : Shape := ⟨3, ![80, 204, 6144]⟩
abbrev S80x204x48 : Shape := ⟨3, ![80, 204, 48]⟩
abbrev S80 : Shape := ⟨1, ![80]⟩
abbrev S80x204 : Shape := ⟨2, ![80, 204]⟩
abbrev S80x768x6144 : Shape := ⟨3, ![80, 768, 6144]⟩
abbrev S80x6x48 : Shape := ⟨3, ![80, 6, 48]⟩
abbrev S80x6144x384 : Shape := ⟨3, ![80, 6144, 384]⟩
abbrev S80x48x3 : Shape := ⟨3, ![80, 48, 3]⟩
abbrev S80x204x48x128 : Shape := ⟨4, ![80, 204, 48, 128]⟩
abbrev S80x1x1 : Shape := ⟨3, ![80, 1, 1]⟩
abbrev S80x204x1 : Shape := ⟨3, ![80, 204, 1]⟩
abbrev S80x6x128x48 : Shape := ⟨4, ![80, 6, 128, 48]⟩
abbrev S80x768x48 : Shape := ⟨3, ![80, 768, 48]⟩
abbrev S80x768x48x128 : Shape := ⟨4, ![80, 768, 48, 128]⟩
abbrev S80x48x128x3 : Shape := ⟨4, ![80, 48, 128, 3]⟩
abbrev S80x6144x3 : Shape := ⟨3, ![80, 6144, 3]⟩
abbrev S80x6144x3x128 : Shape := ⟨4, ![80, 6144, 3, 128]⟩
abbrev S80x204x768 : Shape := ⟨3, ![80, 204, 768]⟩
abbrev S80x204x384 : Shape := ⟨3, ![80, 204, 384]⟩
abbrev S80x204x3x128 : Shape := ⟨4, ![80, 204, 3, 128]⟩
abbrev S80x204x3 : Shape := ⟨3, ![80, 204, 3]⟩
abbrev S80x204x3x1 : Shape := ⟨4, ![80, 204, 3, 1]⟩
abbrev S1x1x1x247 : Shape := ⟨4, ![1, 1, 1, 247]⟩
abbrev S80x204x3x247 : Shape := ⟨4, ![80, 204, 3, 247]⟩

abbrev nBuf : Space → Nat
  | .hbm => 21
  | .vmem => 9
  | .smem => 0
  | _ => 0

abbrev bufTy : (tb : Table) → Fin (tcTables nBuf tb) → BufTy
  | .hbm, ⟨0, _⟩ => ⟨S80x204x6144, .fp8e4m3⟩
  | .hbm, ⟨1, _⟩ => ⟨S80x204x48, .f32⟩
  | .hbm, ⟨2, _⟩ => ⟨S80, .i32⟩
  | .hbm, ⟨3, _⟩ => ⟨S80x204, .f32⟩
  | .hbm, ⟨4, _⟩ => ⟨S80x768x6144, .fp8e4m3⟩
  | .hbm, ⟨5, _⟩ => ⟨S80x6x48, .f32⟩
  | .hbm, ⟨6, _⟩ => ⟨S80x6144x384, .fp8e4m3⟩
  | .hbm, ⟨7, _⟩ => ⟨S80x48x3, .f32⟩
  | .hbm, ⟨8, _⟩ => ⟨S80x204x48x128, .f32⟩
  | .hbm, ⟨9, _⟩ => ⟨S80x204x6144, .f32⟩
  | .hbm, ⟨10, _⟩ => ⟨S80x1x1, .i32⟩
  | .hbm, ⟨11, _⟩ => ⟨S80x204x1, .f32⟩
  | .hbm, ⟨12, _⟩ => ⟨S80x6x128x48, .f32⟩
  | .hbm, ⟨13, _⟩ => ⟨S80x768x48, .f32⟩
  | .hbm, ⟨14, _⟩ => ⟨S80x768x48x128, .f32⟩
  | .hbm, ⟨15, _⟩ => ⟨S80x768x6144, .f32⟩
  | .hbm, ⟨16, _⟩ => ⟨S80x48x128x3, .f32⟩
  | .hbm, ⟨17, _⟩ => ⟨S80x6144x3, .f32⟩
  | .hbm, ⟨18, _⟩ => ⟨S80x6144x3x128, .f32⟩
  | .hbm, ⟨19, _⟩ => ⟨S80x6144x384, .f32⟩
  | .hbm, ⟨20, _⟩ => ⟨S80x204x6144, .bf16⟩
  | .local _ .vmem, ⟨0, _⟩ => ⟨S80x204x6144, .fp8e4m3⟩
  | .local _ .vmem, ⟨1, _⟩ => ⟨S80x204x6144, .f32⟩
  | .local _ .vmem, ⟨2, _⟩ => ⟨S80x1x1, .i32⟩
  | .local _ .vmem, ⟨3, _⟩ => ⟨S80x204x1, .f32⟩
  | .local _ .vmem, ⟨4, _⟩ => ⟨S80x768x6144, .fp8e4m3⟩
  | .local _ .vmem, ⟨5, _⟩ => ⟨S80x768x6144, .f32⟩
  | .local _ .vmem, ⟨6, _⟩ => ⟨S80x6144x384, .fp8e4m3⟩
  | .local _ .vmem, ⟨7, _⟩ => ⟨S80x6144x384, .f32⟩
  | .local _ .vmem, ⟨8, _⟩ => ⟨S80x204x6144, .bf16⟩
  | _, _ => ⟨S80x204x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S80x204x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x204x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x1x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x204x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x768x6144 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S80x768x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S80x6144x384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S80x6144x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S80x204x6144 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Scale.lean ====
module

public import Idealize.ShloMosaic.Lib.Pointwise
public import Idealize.ShloMosaic.Lib.IdealHost

/-! # The power-of-two scale of a group

A group of 128 values is stored as codes times one power of two. The kernel finds the exponent by
counting the powers of two that are not above the scaled maximum and builds the power and its
inverse from their words; the reference takes the least power above it. The two scales are equal,
and the kernel's inverse is the inverse of that scale. -/

@[expose] public section

set_option maxRecDepth 16384

noncomputable section

namespace Cert.Scale

open Idealize.ShloMosaic
open scoped BigOperators

/-- The power `2^k`, as an extended real. -/
def pw (k : ℤ) : EReal := (((2 : ℝ) ^ k : ℝ) : EReal)

/-- Powers of two grow with the exponent. -/
theorem pw_le {a b : ℤ} (h : a ≤ b) : pw a ≤ pw b :=
  EReal.coe_le_coe_iff.2 (zpow_le_zpow_right₀ (by norm_num) h)

/-- A power of two is positive. -/
theorem pw_pos (a : ℤ) : 0 < pw a := by
  unfold pw; exact_mod_cast (zpow_pos (by norm_num : (0:ℝ) < 2) a)

/-- A power of two is not zero. -/
theorem pw_ne (a : ℤ) : pw a ≠ 0 := (pw_pos a).ne'

/-- The inverse of a power of two is the power with the opposite exponent. -/
theorem pw_inv (a : ℤ) : (pw a)⁻¹ = pw (-a) := by
  unfold pw; rw [← EReal.coe_inv, zpow_neg]

/-- The power with exponent 0 is 1. -/
theorem pw_zero : pw 0 = 1 := by simp [pw]

/-- The fields of the word `n << 23`: no sign, exponent field `n`, no mantissa. -/
theorem word_fields : ∀ n : Fin 255,
    (BitVec.extractLsb' 31 1 (BitVec.ofNat 32 n.val <<< (23 : Nat)) = 0#1)
    ∧ (BitVec.extractLsb' 23 8 (BitVec.ofNat 32 n.val <<< (23 : Nat))).toNat = n.val
    ∧ (BitVec.extractLsb' 0 23 (BitVec.ofNat 32 n.val <<< (23 : Nat))).toNat = 0 := by
  decide +kernel

/-- The word with exponent field `n` and nothing else denotes `2^(n - 127)`. -/
theorem ofBits_word {n : ℕ} (h1 : 1 ≤ n) (h2 : n < 255) :
    Ideal.ofBits .f32 (BitVec.ofNat 32 n <<< (23 : Nat)) = pw ((n : ℤ) - 127) := by
  obtain ⟨ha, hb, hc⟩ := word_fields ⟨n, h2⟩
  simp only at ha hb hc
  simp only [Ideal.ofBits, Ideal.ieee, Nat.reduceAdd, ha, hb, hc]
  rw [if_neg (by omega), if_neg (by omega)]
  unfold pw
  rw [EReal.coe_eq_coe_iff]
  have e1 : ((n : ℤ) - (2 ^ (8 - 1) - 1) - ((23 : ℕ) : ℤ)) = ((n : ℤ) - 127) - 23 := by norm_num
  have e2 : ((0#1 : BitVec 1) == 1#1) = false := rfl
  rw [e1, e2, zpow_sub₀ (by norm_num : (2:ℝ) ≠ 0)]
  norm_num
  ring

/-- The kernel's shift by 23 is the shift of words. -/
theorem shl23 (x : BitVec 32) : IntOp.shli .vector x 23#32 = x <<< (23 : Nat) := rfl

/-- The real `n` converts to the word `n`. -/
theorem fptosi_nat {n : ℕ} (h : n ≤ 246) : Ideal.fptosi 32 ((n : ℕ) : EReal) = BitVec.ofNat 32 n := by
  rw [show ((n : ℕ) : EReal) = (((n : ℕ) : ℝ) : EReal) from rfl, Ideal.fptosi, Ideal.toIntClamped_coe,
    if_pos (by positivity), Int.floor_natCast, min_eq_right, max_eq_right]
  · exact BitVec.ofInt_natCast ..
  · have : (0 : ℤ) ≤ n := by positivity
    refine le_trans ?_ this; norm_num
  · norm_num; omega

/-- How many of the powers `2^-126 … 2^119` are not above `v`. -/
def cnt (v : EReal) : ℕ := ((Finset.range 246).filter fun j : ℕ => ¬ v < pw ((j : ℤ) - 126)).card

/-- The count is at most 246, the number of the powers. -/
theorem cnt_le (v : EReal) : cnt v ≤ 246 := (Finset.card_filter_le _ _).trans (by simp)

/-- The powers not above `v` are the first `cnt v`. -/
theorem cnt_iff (v : EReal) {j : ℕ} (hj : j < 246) : ¬ v < pw ((j : ℤ) - 126) ↔ j < cnt v := by
  classical
  have key : ∃ n : ℕ, n ≤ 246 ∧ ∀ j : ℕ, j < 246 → (¬ v < pw ((j : ℤ) - 126) ↔ j < n) := by
    by_cases hall : ∃ j : ℕ, j < 246 ∧ v < pw ((j : ℤ) - 126)
    · refine ⟨Nat.find hall, (Nat.find_spec hall).1.le, fun j hj => ⟨fun h => ?_, fun h hlt => ?_⟩⟩
      · by_contra hcon
        exact h (lt_of_lt_of_le (Nat.find_spec hall).2 (pw_le (by omega)))
      · exact Nat.find_min hall h ⟨hj, hlt⟩
    · exact ⟨246, le_rfl, fun j hj => ⟨fun _ => hj, fun _ h => hall ⟨j, hj, h⟩⟩⟩
  obtain ⟨n, hn, h⟩ := key
  have : cnt v = n := by
    unfold cnt
    rw [show (Finset.range 246).filter (fun j : ℕ => ¬ v < pw ((j : ℤ) - 126)) = Finset.range n from ?_]
    · simp
    · ext j; simp only [Finset.mem_filter, Finset.mem_range]
      constructor
      · rintro ⟨a, b⟩; exact (h j a).1 b
      · intro a; exact ⟨by omega, (h j (by omega)).2 a⟩
  rw [this]; exact h j hj

/-- The sum of ones over the powers not above `v` is their count. -/
theorem sum_cnt (v : EReal) :
    (∑ j : Fin 246, if v < pw ((j.val : ℤ) - 126) then (0 : EReal) else 1) = ((cnt v : ℕ) : EReal) := by
  rw [Fin.sum_univ_eq_sum_range (fun j : ℕ => if v < pw ((j : ℤ) - 126) then (0 : EReal) else 1) 246]
  rw [Finset.sum_congr rfl (g := fun j : ℕ => if ¬ v < pw ((j : ℤ) - 126) then (1 : EReal) else 0)
    (fun j _ => by split_ifs <;> simp_all)]
  rw [← Finset.sum_filter, Finset.sum_const]
  unfold cnt
  simp

/-- The least power above `v` among `2^-126 … 2^120`, or `2^120`. -/
theorem min_scale (v : EReal) :
    (Finset.univ.fold min (⊤ : EReal) fun k : Fin 247 => if v < pw ((k.val : ℤ) - 126) then pw ((k.val : ℤ) - 126) else pw 120)
      = pw ((cnt v : ℤ) - 126) := by
  have hc := cnt_le v
  apply le_antisymm
  · rw [Finset.fold_min_le]
    right
    refine ⟨⟨cnt v, by omega⟩, Finset.mem_univ _, ?_⟩
    by_cases h : cnt v = 246
    · simp only [h]; norm_num
    · have := (cnt_iff v (j := cnt v) (by omega)).not.2 (lt_irrefl _)
      rw [not_not] at this
      rw [if_pos this]
  · rw [Finset.le_fold_min]
    refine ⟨le_top, fun k _ => ?_⟩
    split_ifs with h
    · apply pw_le
      by_contra hcon
      have hk : k.val < cnt v := by omega
      exact (cnt_iff v (by omega)).2 hk h
    · exact pw_le (by omega)

/-- The scale of a group whose largest magnitude is `a`: the least power of two above `a / 448`. -/
def S (a : EReal) : EReal :=
  if a = 0 then 1 else pw ((cnt (a * Ideal.ofBits .f32 0x3B124925#32) : ℤ) - 126)

/-- A scale is not zero. -/
theorem S_ne (a : EReal) : S a ≠ 0 := by
  unfold S; split_ifs
  · exact one_ne_zero
  · exact pw_ne _

/-- Division by the scale is multiplication by its inverse. -/
theorem div_S (h a : EReal) : Ideal.div h (S a) = h * (S a)⁻¹ := by
  unfold Ideal.div; rw [if_neg (S_ne a)]

/-- The exponent word the kernel computes from the largest magnitude `a`. -/
def ex (a : EReal) : BitVec 32 :=
  if a = 0 then 0#32 else BitVec.ofNat 32 (cnt (a * Ideal.ofBits .f32 0x3B124925#32)) - 126#32

/-- The word `(127 + ex) << 23`, read as a float, is the scale. -/
theorem sc_word (a : EReal) : Ideal.ofBits .f32 ((127#32 + ex a) <<< (23 : Nat)) = S a := by
  unfold ex S
  split_ifs
  · rw [show (127#32 + 0#32) = BitVec.ofNat 32 127 from rfl, ofBits_word (by norm_num) (by norm_num)]
    norm_num [pw_zero]
  · have := cnt_le (a * Ideal.ofBits .f32 0x3B124925#32)
    generalize cnt (a * Ideal.ofBits .f32 0x3B124925#32) = n at this
    rw [show (127#32 + (BitVec.ofNat 32 n - 126#32)) = BitVec.ofNat 32 (n + 1) from by bv_omega,
      ofBits_word (by omega) (by omega)]
    congr 1; push_cast; ring

/-- The word `(127 - ex) << 23`, read as a float, is the inverse of the scale. -/
theorem inv_word (a : EReal) : Ideal.ofBits .f32 ((127#32 - ex a) <<< (23 : Nat)) = (S a)⁻¹ := by
  unfold ex S
  split_ifs
  · rw [show (127#32 - 0#32) = BitVec.ofNat 32 127 from rfl, ofBits_word (by norm_num) (by norm_num)]
    norm_num [pw_zero]
  · have := cnt_le (a * Ideal.ofBits .f32 0x3B124925#32)
    generalize cnt (a * Ideal.ofBits .f32 0x3B124925#32) = n at this
    rw [show (127#32 - (BitVec.ofNat 32 n - 126#32)) = BitVec.ofNat 32 (253 - n) from by bv_omega,
      ofBits_word (by omega) (by omega), pw_inv]
    congr 1; push_cast [show n ≤ 253 by omega]; ring

/-- The kernel's exponent, as it is computed: a sum of ones converted to a word. -/
theorem ex_eq (a : EReal) :
    (if a = 0 then 0#32 else
      IntOp.subi (Ideal.fptosi 32 (∑ x : Fin 246,
        if a * Ideal.ofBits .f32 991054117#32
          < Ideal.ofBits .f32 (IntOp.shli .vector (IntOp.addi (BitVec.ofNat 32 x.val) 1#32) 23#32) then (0 : EReal) else 1))
        126#32) = ex a := by
  unfold ex
  congr 1
  rw [Finset.sum_congr rfl (g := fun x : Fin 246 =>
    if a * Ideal.ofBits .f32 991054117#32 < pw ((x.val : ℤ) - 126) then (0 : EReal) else 1) (fun x _ => ?_)]
  · rw [sum_cnt, fptosi_nat (cnt_le _)]; rfl
  · have hx := x.isLt
    rw [shl23, show IntOp.addi (BitVec.ofNat 32 x.val) 1#32 = BitVec.ofNat 32 (x.val + 1) from by
        show BitVec.ofNat 32 x.val + 1#32 = _; bv_omega, ofBits_word (by omega) (by omega)]
    congr 3; push_cast; ring

end Cert.Scale

end
-- ==== Proof.Step.lean ====
module

public import Idealize.ShloMosaic.Lib.Pointwise
public import proofs.«01_k».proof.Proof.Gen.KernelIdeal
public import proofs.«01_k».proof.Proof.Scale

/-! # The kernel's repeated steps

One expert's block is computed by the same few steps again and again: one step of a first product
(two tiles of 128 columns side by side), the quantiser of one group of 128 values, and one block of
128 columns of the second product. Each step is defined once here, with its value at an index. -/

@[expose] public section

set_option maxRecDepth 16384

noncomputable section

namespace Cert.KernelIdeal.Step

open Idealize.ShloMosaic
open Cert.KernelIdeal Cert.KernelIdeal.Gen
open scoped BigOperators

variable {F : FTy → Type} [FloatOps F]

/-- A tile of the first weights: codes times one scale. -/
def wtile (s : Elt F .f32) (w : Vec F S1x128x128 .fp8e4m3) : FVec F S128x128 .bf16 :=
  mulf (extf .bf16 (shapeCast S128x128 w shapeCasts_S1x128x128_S128x128) bitsLt_fp8e4m3_bf16)
    (broadcast S128x128 (Scalar.truncf .bf16 bitsLt_bf16_f32 s))

/-- A tile of tokens: codes times one scale per token. -/
def xtile (x : Vec F S1x204x128 .fp8e4m3) (xs : Vec F S1x204x1 .f32) : FVec F S204x128 .bf16 :=
  mulf (extf .bf16 (shapeCast S204x128 x shapeCasts_S1x204x128_S204x128) bitsLt_fp8e4m3_bf16)
    (broadcastTo S204x128 (truncf .bf16 (shapeCast S204x1 xs shapeCasts_S1x204x1_S204x1) bitsLt_bf16_f32)
      broadcasts_S204x1_S204x128)

/-- One step of a first product: two tiles side by side, multiplied and added. -/
def gstep (acc : FVec F S204x128 .f32) (x0 x1 : FVec F S204x128 .bf16) (w0 w1 : FVec F S128x128 .bf16) :
    FVec F S204x128 .f32 :=
  addf acc (matmul dot_S204x256_S128x256_S204x128_1_1_0_0_n_n none
    (concatenate S204x256 1 [⟨S204x128, x0⟩, ⟨S204x128, x1⟩] concatenates_S204x128_S204x128_S204x256_d1)
    (concatenate S128x256 1 [⟨S128x128, w0⟩, ⟨S128x128, w1⟩] concatenates_S128x128_S128x128_S128x256_d1)
    (constant S204x128 .f32 0x00000000#32))

/-- The zero the first product starts from. -/
def zero : FVec F S204x128 .f32 := broadcast S204x128 (Scalar.ofBits .f32 0x00000000#32)

/-- A tile of the first weights, entry by entry: the code times its scale. -/
theorem wtile_at (s : Elt Ideal .f32) (w : Vec Ideal S1x128x128 .fp8e4m3) (f q : Fin 128) :
    wtile (F := Ideal) s w (ix2 f q) = w (ix3 0 f q) * s := by
  pointwise [wtile]

/-- A tile of `x`, entry by entry: the code times its row's scale. -/
theorem xtile_at (x : Vec Ideal S1x204x128 .fp8e4m3) (xs : Vec Ideal S1x204x1 .f32) (c : Fin 204) (q : Fin 128) :
    xtile (F := Ideal) x xs (ix2 c q) = x (ix3 0 c q) * xs (ix3 0 c 0) := by
  pointwise [xtile]

/-- One step of the first product adds the sum over its 256 columns. -/
theorem gstep_at (acc : FVec Ideal S204x128 .f32) (x0 x1 : FVec Ideal S204x128 .bf16)
    (w0 w1 : FVec Ideal S128x128 .bf16) (c : Fin 204) (f : Fin 128) :
    gstep acc x0 x1 w0 w1 (ix2 c f) = acc (ix2 c f)
      + ((∑ q : Fin 128, x0 (ix2 c q) * w0 (ix2 f q)) + ∑ q : Fin 128, x1 (ix2 c q) * w1 (ix2 f q)) := by
  pointwise [gstep]

/-- The accumulator starts at zero. -/
theorem zero_at (c : Fin 204) (f : Fin 128) : zero (F := Ideal) (ix2 c f) = 0 := by
  pointwise [zero]

/-- The hidden value of a group, from its gate and up products. -/
def hid (g u : FVec F S204x128 .f32) : FVec F S204x128 .f32 := mulf (mulf g (logistic g)) u

/-- The largest magnitude of a group, token by token. -/
def amax (h : FVec F S204x128 .f32) : FVec F S204x1 .f32 :=
  shapeCast S204x1 (multiReduction .maximumf [1] S204 (absf h) 0xFF800000#32 reduces_S204x128_S204 (.inl rfl) rfl)
    shapeCasts_S204_S204x1

/-- The exponent of a group's power-of-two scale. -/
def expo (a : FVec F S204x1 .f32) : IVec S204x1 32 :=
  select (cmpf .oeq a (broadcast S204x1 (Scalar.ofBits .f32 0x00000000#32 : F .f32))) (broadcast S204x1 0#32)
    (subi (fptosi 32 (shapeCast S204x1 (multiReduction .add [1] S204
      (select (cmpf .olt
          (broadcastTo S204x246 (mulf a (broadcast S204x1 (Scalar.ofBits .f32 0x3B124925#32 : F .f32))) broadcasts_S204x1_S204x246)
          (bitcastToFloat .f32 (shli (addi (iota .tc S204x246 32 [1] iota_S204x246_d1_w32) (broadcast S204x246 1#32))
            (broadcast S204x246 23#32))))
        (broadcast S204x246 (Scalar.ofBits .f32 0x00000000#32 : F .f32))
        (broadcast S204x246 (Scalar.ofBits .f32 0x3F800000#32 : F .f32)))
      0x00000000#32 reduces_S204x246_S204 (.inl rfl) rfl) shapeCasts_S204_S204x1))
      (broadcast S204x1 126#32))

/-- The scale, built from its word. -/
def sc (ex : IVec S204x1 32) : FVec F S204x1 .f32 :=
  bitcastToFloat .f32 (shli (addi (broadcast S204x1 127#32) ex) (broadcast S204x1 23#32))

/-- The inverse of the scale, built from its word. -/
def inv (ex : IVec S204x1 32) : FVec F S204x1 .f32 :=
  bitcastToFloat .f32 (shli (subi (broadcast S204x1 127#32) ex) (broadcast S204x1 23#32))

/-- A group quantised and widened again. -/
def quant (h : FVec F S204x128 .f32) : FVec F S204x128 .bf16 :=
  mulf (extf .bf16 (truncf .fp8e4m3 (minimumf (broadcast S204x128 (Scalar.ofBits .f32 0x43E00000#32 : F .f32))
      (maximumf (broadcast S204x128 (Scalar.ofBits .f32 0xC3E00000#32 : F .f32))
        (mulf h (broadcastTo S204x128 (inv (expo (amax h))) broadcasts_S204x1_S204x128))))
      bitsLt_fp8e4m3_f32) bitsLt_fp8e4m3_bf16)
    (broadcastTo S204x128 (truncf .bf16 (sc (expo (amax h)) : FVec F S204x1 .f32) bitsLt_bf16_f32) broadcasts_S204x1_S204x128)

/-- The hidden value, entry by entry: `g * sigmoid(g) * u`. -/
theorem hid_at (g u : FVec Ideal S204x128 .f32) (c : Fin 204) (f : Fin 128) :
    hid (F := Ideal) g u (ix2 c f) = g (ix2 c f) * Ideal.logistic (g (ix2 c f)) * u (ix2 c f) := by
  pointwise [hid]

/-- The largest magnitude of a row. -/
theorem amax_at (h : FVec Ideal S204x128 .f32) (c : Fin 204) :
    amax (F := Ideal) h (ix2 c 0)
      = Finset.univ.fold max (Ideal.ofBits .f32 0xFF800000#32) fun q : Fin 128 => max (h (ix2 c q)) (-h (ix2 c q)) := by
  pointwise [amax]
  rfl

/-- The exponent of a row's scale. -/
theorem expo_at (a : FVec Ideal S204x1 .f32) (c : Fin 204) :
    expo (F := Ideal) a (ix2 c 0) = Scale.ex (a (ix2 c 0)) := by
  pointwise [expo]
  exact Scale.ex_eq _

/-- The scale of a row, read from its exponent. -/
theorem sc_at (a : IVec S204x1 32) (c : Fin 204) :
    sc (F := Ideal) a (ix2 c 0) = Ideal.ofBits .f32 ((127#32 + a (ix2 c 0)) <<< (23 : Nat)) := by
  pointwise [sc]
  rfl

/-- The inverse scale of a row, read from its exponent. -/
theorem inv_at (a : IVec S204x1 32) (c : Fin 204) :
    inv (F := Ideal) a (ix2 c 0) = Ideal.ofBits .f32 ((127#32 - a (ix2 c 0)) <<< (23 : Nat)) := by
  pointwise [inv]
  rfl

/-- A quantised value: clipped against the group's scale, times the scale. -/
theorem quant_at (h : FVec Ideal S204x128 .f32) (c : Fin 204) (f : Fin 128) :
    quant (F := Ideal) h (ix2 c f)
      = min (Ideal.ofBits .f32 0x43E00000#32) (max (Ideal.ofBits .f32 0xC3E00000#32)
          (h (ix2 c f) * (Scale.S (amax (F := Ideal) h (ix2 c 0)))⁻¹)) * Scale.S (amax (F := Ideal) h (ix2 c 0)) := by
  pointwise [quant]
  rw [inv_at, sc_at, expo_at, Scale.inv_word, Scale.sc_word]

/-- Three quantised groups side by side. -/
def group (q0 q1 q2 : FVec F S204x128 .bf16) : FVec F S204x384 .bf16 :=
  concatenate S204x384 1 [⟨S204x128, q0⟩, ⟨S204x128, q1⟩, ⟨S204x128, q2⟩] concatenates_S204x128_S204x128_S204x128_S204x384_d1

/-- Three groups side by side: column `f` is in group `f / 128`, at `f % 128`. -/
theorem group_at (q0 q1 q2 : FVec Ideal S204x128 .bf16) (c : Fin 204) (f : Fin 384) :
    group (F := Ideal) q0 q1 q2 (ix2 c f) = if h : f.val < 128 then q0 (ix2 c ⟨f.val, h⟩)
      else if h : f.val - 128 < 128 then q1 (ix2 c ⟨f.val - 128, h⟩)
      else q2 (ix2 c ⟨f.val - 128 - 128, by omega⟩) := by
  pointwise [group]

/-- One block of 128 result columns: the second product, weighted, and zero at the tokens that are not counted. -/
def down (hg : FVec F S204x384 .bf16) (ok : IVec S204x1 1) (rw : FVec F S204x1 .f32)
    (w0 w1 w2 : FVec F S128x128 .bf16) : FVec F S1x204x128 .bf16 :=
  shapeCast S1x204x128 (truncf .bf16 (select
    (broadcastTo S204x128 (shapeCast S204x1 ok shapeCasts_S204x1_S204x1) broadcasts_S204x1_S204x128)
    (mulf (matmul dot_S204x384_S128x384_S204x128_1_1_0_0_n_n none hg
        (concatenate S128x384 1 [⟨S128x128, w0⟩, ⟨S128x128, w1⟩, ⟨S128x128, w2⟩] concatenates_S128x128_S128x128_S128x128_S128x384_d1)
        (constant S204x128 .f32 0x00000000#32))
      (broadcastTo S204x128 rw broadcasts_S204x1_S204x128))
    (broadcast S204x128 (Scalar.ofBits .f32 0x00000000#32 : F .f32))) bitsLt_bf16_f32) shapeCasts_S204x128_S1x204x128

/-- One block of the second product, weighted and masked, entry by entry. -/
theorem down_at (hg : FVec Ideal S204x384 .bf16) (ok : IVec S204x1 1) (rw : FVec Ideal S204x1 .f32)
    (w0 w1 w2 : FVec Ideal S128x128 .bf16) (c : Fin 204) (d : Fin 128) :
    down (F := Ideal) hg ok rw w0 w1 w2 (ix3 0 c d) = Scalar.select (ok (ix2 c 0))
      ((∑ x : Fin 384, hg (ix2 c x) *
          if h : x.val < 128 then w0 (ix2 d ⟨x.val, h⟩)
          else if h : x.val - 128 < 128 then w1 (ix2 d ⟨x.val - 128, h⟩) else w2 (ix2 d ⟨x.val - 128 - 128, by omega⟩)) *
        rw (ix2 c 0)) 0 := by
  pointwise [down]

end Cert.KernelIdeal.Step

end
-- ==== Proof.Pieces.lean ====
module

public import proofs.«01_k».proof.Proof.Gen.KernelIdeal.Frame
public import proofs.«01_k».proof.Proof.Step
import Idealize.ShloMosaic.Lib.Tactic

/-! # The blocks the kernel stores, as one family

The kernel writes the 48 blocks of 128 columns of its result one after the other. Here the whole
computation of a block is written once, for any block number, over the tiles the kernel loads, and the list
of stores read off the run is shown to be that family. -/

@[expose] public section

set_option maxRecDepth 16384

noncomputable section

namespace Cert.KernelIdeal.Step

open Idealize.ShloMosaic Idealize.ShloMosaic.TcCoe Idealize.ShloMosaic.Tactic
open Cert.KernelIdeal Cert.KernelIdeal.Gen

variable {F : FTy → Type} [FloatOps F]

/-- The tiles one expert's block is computed from, by number: tokens and their scales (column blocks of 128),
first weights (row block, column block) and their scales, second weights (row block, column block) and their
scales, the number of counted tokens, the routing weights. -/
structure Tiles (F : FTy → Type) where
  x : ℕ → Vec F S1x204x128 .fp8e4m3
  xs : ℕ → Vec F S1x204x1 .f32
  w : ℕ → ℕ → Vec F S1x128x128 .fp8e4m3
  s : ℕ → Elt F .f32
  w2 : ℕ → ℕ → Vec F S1x128x128 .fp8e4m3
  s2 : ℕ → Elt F .f32
  n : Elt F .i32
  rw : Vec F S1x204x1 .f32

/-- Row block `b` of the first product after `n` of its 24 steps. -/
def chain (T : Tiles F) (b n : ℕ) : FVec F S204x128 .f32 :=
  Nat.rec zero (fun k acc => gstep acc (xtile (T.x (2 * k)) (T.xs (2 * k))) (xtile (T.x (2 * k + 1)) (T.xs (2 * k + 1)))
    (wtile (T.s (48 * b + 2 * k)) (T.w b (2 * k))) (wtile (T.s (48 * b + (2 * k + 1))) (T.w b (2 * k + 1)))) n

/-- Group `b` of the hidden values, quantised and widened. -/
def hq (T : Tiles F) (b : ℕ) : FVec F S204x128 .bf16 := quant (hid (chain T b 24) (chain T (3 + b) 24))

/-- The 384 hidden values. -/
def hidden (T : Tiles F) : FVec F S204x384 .bf16 := group (hq T 0) (hq T 1) (hq T 2)

/-- The tokens that are counted. -/
def counted (T : Tiles F) : IVec S204x1 1 :=
  cmpi .slt (iota .tc S204x1 32 [0] iota_S204x1_d0_w32) (broadcast S204x1 T.n)

/-- Column block `d` of the result. -/
def block (T : Tiles F) (d : ℕ) : FVec F S1x204x128 .bf16 :=
  down (hidden T) (counted T) (shapeCast S204x1 T.rw shapeCasts_S1x204x1_S204x1)
    (wtile (T.s2 (3 * d)) (T.w2 d 0)) (wtile (T.s2 (3 * d + 1)) (T.w2 d 1)) (wtile (T.s2 (3 * d + 2)) (T.w2 d 2))

/-- The row of the scales that a grid point reads is its expert. -/
theorem row_eq : ∀ i : grid0.Coords, (Scalar.indexCast (BitVec.ofNat 32 (i 0).val)).toNat = (i 0).val := by decide +kernel

/-- A tile of `x` lies inside the block. -/
theorem inb_x (j : ℕ) : ∀ a, (![0, 0, 128 * (j % 48)] : Fin 3 → ℕ) a + S1x204x128.size a ≤ S1x204x6144.size a := by
  have h := Nat.mod_lt j (show 0 < 48 by decide)
  intro a
  fin_cases a
  · exact Nat.le_refl _
  · exact Nat.le_refl _
  · show 128 * (j % 48) + 128 ≤ 6144; omega

/-- A column of the scales of `x` lies inside the block. -/
theorem inb_xs (j : ℕ) : ∀ a, (![0, 0, j % 48] : Fin 3 → ℕ) a + S1x204x1.size a ≤ S1x204x48.size a := by
  have h := Nat.mod_lt j (show 0 < 48 by decide)
  intro a
  fin_cases a
  · exact Nat.le_refl _
  · exact Nat.le_refl _
  · show j % 48 + 1 ≤ 48; omega

/-- A tile of the first weights lies inside the block. -/
theorem inb_w (b j : ℕ) :
    ∀ a, (![0, 128 * (b % 6), 128 * (j % 48)] : Fin 3 → ℕ) a + S1x128x128.size a ≤ S1x768x6144.size a := by
  have h := Nat.mod_lt j (show 0 < 48 by decide)
  have h' := Nat.mod_lt b (show 0 < 6 by decide)
  intro a
  fin_cases a
  · exact Nat.le_refl _
  · show 128 * (b % 6) + 128 ≤ 768; omega
  · show 128 * (j % 48) + 128 ≤ 6144; omega

/-- A tile of the second weights lies inside the block. -/
theorem inb_w2 (d j : ℕ) :
    ∀ a, (![0, 128 * (d % 48), 128 * (j % 3)] : Fin 3 → ℕ) a + S1x128x128.size a ≤ S1x6144x384.size a := by
  have h := Nat.mod_lt j (show 0 < 3 by decide)
  have h' := Nat.mod_lt d (show 0 < 48 by decide)
  intro a
  fin_cases a
  · exact Nat.le_refl _
  · show 128 * (d % 48) + 128 ≤ 6144; omega
  · show 128 * (j % 3) + 128 ≤ 384; omega

/-- A scale of the first weights lies inside its table. -/
theorem inb_s (i : grid0.Coords) (j : ℕ) :
    ∀ a, (![(Scalar.indexCast (BitVec.ofNat 32 (i 0).val)).toNat, j % 288] : Fin 2 → ℕ) a + S1x1.size a ≤ S80x288.size a := by
  have h := Nat.mod_lt j (show 0 < 288 by decide)
  have h' : (i 0).val < 80 := (i 0).isLt
  have e := row_eq i
  intro a
  fin_cases a
  · show (Scalar.indexCast (BitVec.ofNat 32 (i 0).val)).toNat + 1 ≤ 80; omega
  · show j % 288 + 1 ≤ 288; omega

/-- A scale of the second weights lies inside its table. -/
theorem inb_s2 (i : grid0.Coords) (j : ℕ) :
    ∀ a, (![(Scalar.indexCast (BitVec.ofNat 32 (i 0).val)).toNat, j % 144] : Fin 2 → ℕ) a + S1x1.size a ≤ S80x144.size a := by
  have h := Nat.mod_lt j (show 0 < 144 by decide)
  have h' : (i 0).val < 80 := (i 0).isLt
  have e := row_eq i
  intro a
  fin_cases a
  · show (Scalar.indexCast (BitVec.ofNat 32 (i 0).val)).toNat + 1 ≤ 80; omega
  · show j % 144 + 1 ≤ 144; omega

section Run

variable (c : Dev nD) (i : grid0.Coords) (arg2 : Memref sig .tc .vmem S1x204x6144 .fp8e4m3) (harg2 : arg2.IsWhole)
  (arg3 : Memref sig .tc .vmem S1x204x48 .f32) (harg3 : arg3.IsWhole)
  (arg4 : Memref sig .tc .vmem S1x204x1 .f32) (harg4 : arg4.IsWhole)
  (arg5 : Memref sig .tc .vmem S1x768x6144 .fp8e4m3) (harg5 : arg5.IsWhole)
  (arg6 : Memref sig .tc .smem S80x288 .f32) (harg6 : arg6.IsWhole)
  (arg7 : Memref sig .tc .vmem S1x6144x384 .fp8e4m3) (harg7 : arg7.IsWhole)
  (arg8 : Memref sig .tc .smem S80x144 .f32) (harg8 : arg8.IsWhole)
  (arg9 : Memref sig .tc .vmem S1x204x6144 .bf16) (harg9 : arg9.IsWhole)
  (x0 : Vec F S1x204x6144 .fp8e4m3) (x1 : Vec F S1x204x48 .f32) (x2 : Vec F S1x204x1 .f32)
  (x3 : Vec F S1x768x6144 .fp8e4m3) (x4 : Vec F S80x288 .f32) (x5 : Vec F S1x6144x384 .fp8e4m3)
  (x6 : Vec F S80x144 .f32) (xt0 : TbBuf0 (F := F) c tbM0_0)

/-- The tiles the body loads from its buffers. -/
def loaded : Tiles F where
  x j := View.readAt (Elt F) arg2.view (Rect.unit (s := S1x204x6144) ![0, 0, 128 * (j % 48)] S1x204x128.size (inb_x j)).toLoadRect
    (harg2.unread x0)
  xs j := View.readAt (Elt F) arg3.view (Rect.unit (s := S1x204x48) ![0, 0, j % 48] S1x204x1.size (inb_xs j)).toLoadRect
    (harg3.unread x1)
  w b j := View.readAt (Elt F) arg5.view
    (Rect.unit (s := S1x768x6144) ![0, 128 * (b % 6), 128 * (j % 48)] S1x128x128.size (inb_w b j)).toLoadRect (harg5.unread x3)
  s j := View.readAt (Elt F) arg6.view (Rect.unit (s := S80x288) ![(Scalar.indexCast (BitVec.ofNat 32 (i 0).val)).toNat, j % 288]
    S1x1.size (inb_s i j)).toLoadRect (harg6.unread x4) (Shape.Idx.first (numel1_S1x1.symm ▸ Nat.one_pos))
  w2 d j := View.readAt (Elt F) arg7.view
    (Rect.unit (s := S1x6144x384) ![0, 128 * (d % 48), 128 * (j % 3)] S1x128x128.size (inb_w2 d j)).toLoadRect (harg7.unread x5)
  s2 j := View.readAt (Elt F) arg8.view (Rect.unit (s := S80x144) ![(Scalar.indexCast (BitVec.ofNat 32 (i 0).val)).toNat, j % 144]
    S1x1.size (inb_s2 i j)).toLoadRect (harg8.unread x6) (Shape.Idx.first (numel1_S1x1.symm ▸ Nat.one_pos))
  n := View.readAt (Elt F) tbM0_0.view (Rect.unit (s := S80) (k0_off289 i) S1.size (k0_off289_inb i)).toLoadRect xt0
    (Shape.Idx.first (numel1_S1.symm ▸ Nat.one_pos))
  rw := View.readAt (Elt F) arg4.view (Rect.unit (s := S1x204x1) ![0, 0, 0] S1x204x1.size inb_S1x204x1_S1x204x1_0_0_0).toLoadRect
    (harg4.unread x2)

/-- The stores of the run, newest first: the 48 column blocks of the family, each at its own columns. -/
theorem pieces_eq :
    (kernelRun0_A c i arg2 harg2 arg3 harg3 arg4 harg4 arg5 harg5 arg6 harg6 arg7 harg7 arg8 harg8 arg9 harg9
      x0 x1 x2 x3 x4 x5 x6 xt0).1
    = List.ofFn fun k : Fin 48 => ⟨Rect.unit (s := S1x204x6144) ![0, 0, 128 * ((47 - k.val) % 48)] S1x204x128.size (inb_x (47 - k.val)),
      block (loaded c i arg2 harg2 arg3 harg3 arg4 harg4 arg5 harg5 arg6 harg6 arg7 harg7 arg8 harg8
        x0 x1 x2 x3 x4 x5 x6 xt0) (47 - k.val)⟩ := by
  sl_kernel_rfl

end Run

end Cert.KernelIdeal.Step

end
-- ==== Proof.Spec.lean ====
module

public import Idealize.ShloMosaic.Lib.Pointwise
public import proofs.«01_k».proof.Proof.Scale

/-! # What both programs compute, entry by entry

One expert's gated product, its hidden values quantised in groups of 128, and the second product, as a
function of that expert's arrays. The kernel and the reference are both shown to equal it. -/

@[expose] public section

noncomputable section

namespace Cert.Spec

open Idealize.ShloMosaic
open scoped BigOperators

/-- One expert's arrays: tokens, their scales, the first weights, their scales, the second weights, their
scales, how many tokens count, and the routing weights. -/
structure Expert where
  x : Fin 204 → Fin 6144 → EReal
  xs : Fin 204 → Fin 48 → EReal
  w : Fin 768 → Fin 6144 → EReal
  s : Fin 6 → Fin 48 → EReal
  w2 : Fin 6144 → Fin 384 → EReal
  s2 : Fin 48 → Fin 3 → EReal
  n : BitVec 32
  rw : Fin 204 → EReal

variable (E : Expert)

/-- One term of the first product: a token entry times a weight entry, each with its block's scale. -/
def term (c : Fin 204) (f : Fin 768) (i : Fin 6144) : EReal :=
  (E.x c i * E.xs c ⟨i.val / 128, by omega⟩) * (E.w f i * E.s ⟨f.val / 128, by omega⟩ ⟨i.val / 128, by omega⟩)

/-- The first product. -/
def gu (c : Fin 204) (f : Fin 768) : EReal := ∑ i : Fin 6144, term E c f i

/-- A hidden value: gate times its logistic, times up. -/
def hid (c : Fin 204) (b : Fin 3) (q : Fin 128) : EReal :=
  gu E c ⟨128 * b.val + q.val, by omega⟩ * Ideal.logistic (gu E c ⟨128 * b.val + q.val, by omega⟩)
    * gu E c ⟨384 + (128 * b.val + q.val), by omega⟩

/-- The largest magnitude of a group. -/
def amax (c : Fin 204) (b : Fin 3) : EReal :=
  Finset.univ.fold max (Ideal.ofBits .f32 0xFF800000#32) fun q : Fin 128 => max (hid E c b q) (-hid E c b q)

/-- A hidden value quantised with its group's scale, and widened again. -/
def quant (c : Fin 204) (b : Fin 3) (q : Fin 128) : EReal :=
  min (Ideal.ofBits .f32 0x43E00000#32) (max (Ideal.ofBits .f32 0xC3E00000#32) (hid E c b q * (Scale.S (amax E c b))⁻¹))
    * Scale.S (amax E c b)

/-- The result: the second product, weighted, and zero at the tokens that are not counted. -/
def out (c : Fin 204) (d : Fin 6144) : EReal :=
  Scalar.select (IntOp.cmpi .slt (BitVec.ofNat 32 c.val) E.n)
    ((∑ f : Fin 384, quant E c ⟨f.val / 128, by omega⟩ ⟨f.val % 128, by omega⟩
        * (E.w2 d f * E.s2 ⟨d.val / 128, by omega⟩ ⟨f.val / 128, by omega⟩)) * E.rw c) (0 : EReal)

/-- One expert's arrays, out of the programs' arguments. -/
def expert (x : Vec Ideal ⟨3, ![80, 204, 6144]⟩ .fp8e4m3) (xs : Vec Ideal ⟨3, ![80, 204, 48]⟩ .f32) (n : Vec Ideal ⟨1, ![80]⟩ .i32)
    (rw : Vec Ideal ⟨2, ![80, 204]⟩ .f32) (w : Vec Ideal ⟨3, ![80, 768, 6144]⟩ .fp8e4m3) (s : Vec Ideal ⟨3, ![80, 6, 48]⟩ .f32)
    (w2 : Vec Ideal ⟨3, ![80, 6144, 384]⟩ .fp8e4m3) (s2 : Vec Ideal ⟨3, ![80, 48, 3]⟩ .f32) (e : Fin 80) : Expert where
  x c i := x (ix3 e c i)
  xs c k := xs (ix3 e c k)
  w f i := w (ix3 e f i)
  s b k := s (ix3 e b k)
  w2 d f := w2 (ix3 e d f)
  s2 d j := s2 (ix3 e d j)
  n := n (ix1 e)
  rw c := rw (ix2 e c)

/-- The whole result, over all experts. -/
def result (x : Vec Ideal ⟨3, ![80, 204, 6144]⟩ .fp8e4m3) (xs : Vec Ideal ⟨3, ![80, 204, 48]⟩ .f32) (n : Vec Ideal ⟨1, ![80]⟩ .i32)
    (rw : Vec Ideal ⟨2, ![80, 204]⟩ .f32) (w : Vec Ideal ⟨3, ![80, 768, 6144]⟩ .fp8e4m3) (s : Vec Ideal ⟨3, ![80, 6, 48]⟩ .f32)
    (w2 : Vec Ideal ⟨3, ![80, 6144, 384]⟩ .fp8e4m3) (s2 : Vec Ideal ⟨3, ![80, 48, 3]⟩ .f32) :
    Vec Ideal ⟨3, ![80, 204, 6144]⟩ .bf16 :=
  fun y => out (expert x xs n rw w s w2 s2 (y 0)) (y 1) (y 2)

end Cert.Spec

end
-- ==== Proof.Block.lean ====
module

public import proofs.«01_k».proof.Proof.Pieces
public import proofs.«01_k».proof.Proof.Spec

/-! # A column block of the kernel, entry by entry -/

@[expose] public section

set_option maxRecDepth 16384

noncomputable section

namespace Cert.KernelIdeal.Step

open Idealize.ShloMosaic
open Cert.KernelIdeal Cert.KernelIdeal.Gen
open scoped BigOperators

/-- The tiles are those of one expert's arrays. -/
structure Reads (T : Tiles Ideal) (E : Spec.Expert) : Prop where
  x : ∀ (j : ℕ) (hj : j < 48) (c : Fin 204) (q : Fin 128), T.x j (ix3 0 c q) = E.x c ⟨128 * j + q.val, by omega⟩
  xs : ∀ (j : ℕ) (hj : j < 48) (c : Fin 204), T.xs j (ix3 0 c 0) = E.xs c ⟨j, hj⟩
  w : ∀ (b j : ℕ) (hb : b < 6) (hj : j < 48) (f q : Fin 128),
    T.w b j (ix3 0 f q) = E.w ⟨128 * b + f.val, by omega⟩ ⟨128 * j + q.val, by omega⟩
  s : ∀ (b j : ℕ) (hb : b < 6) (hj : j < 48), T.s (48 * b + j) = E.s ⟨b, hb⟩ ⟨j, hj⟩
  w2 : ∀ (d j : ℕ) (hd : d < 48) (hj : j < 3) (r q : Fin 128),
    T.w2 d j (ix3 0 r q) = E.w2 ⟨128 * d + r.val, by omega⟩ ⟨128 * j + q.val, by omega⟩
  s2 : ∀ (d j : ℕ) (hd : d < 48) (hj : j < 3), T.s2 (3 * d + j) = E.s2 ⟨d, hd⟩ ⟨j, hj⟩
  n : T.n = E.n
  rw : ∀ c : Fin 204, T.rw (ix3 0 c 0) = E.rw c

variable {T : Tiles Ideal} {E : Spec.Expert}

/-- The terms of the first product, by number. -/
def termN (E : Spec.Expert) (c : Fin 204) (f : Fin 768) (i : ℕ) : EReal :=
  if h : i < 6144 then Spec.term E c f ⟨i, h⟩ else 0

/-- One tile's products are 128 consecutive terms. -/
theorem tile_sum (R : Reads T E) (b j : ℕ) (hb : b < 6) (hj : j < 48) (c : Fin 204) (f : Fin 128) :
    (∑ q : Fin 128, xtile (F := Ideal) (T.x j) (T.xs j) (ix2 c q) * wtile (F := Ideal) (T.s (48 * b + j)) (T.w b j) (ix2 f q))
      = ∑ q ∈ Finset.range 128, termN E c ⟨128 * b + f.val, by omega⟩ (128 * j + q) := by
  rw [Finset.sum_range]
  refine Finset.sum_congr rfl fun q _ => ?_
  have e0 : (128 * j + q.val) / 128 = j := by omega
  have e1 : (128 * b + f.val) / 128 = b := by omega
  rw [xtile_at, wtile_at, R.x j hj, R.xs j hj, R.w b j hb hj, R.s b j hb hj, termN, dif_pos (by omega)]
  simp only [Spec.term, e0, e1]

/-- After `n` steps a row block holds the sum of the first `256 * n` terms. -/
theorem chain_at (R : Reads T E) (b : ℕ) (hb : b < 6) (c : Fin 204) (f : Fin 128) (n : ℕ) (hn : n ≤ 24) :
    chain T b n (ix2 c f) = ∑ i ∈ Finset.range (256 * n), termN E c ⟨128 * b + f.val, by omega⟩ i := by
  induction n with
  | zero => exact zero_at c f
  | succ n ih =>
    refine (gstep_at _ _ _ _ _ c f).trans ?_
    rw [tile_sum R b (2 * n) hb (by omega), tile_sum R b (2 * n + 1) hb (by omega), show 256 * (n + 1) = 256 * n + 128 + 128 by ring,
      Finset.sum_range_add, Finset.sum_range_add, add_assoc, show 128 * (2 * n) = 256 * n by ring,
      show 128 * (2 * n + 1) = 256 * n + 128 by ring]
    exact congrArg (· + _) (ih (by omega))

/-- A row block of the first product. -/
theorem chain_gu (R : Reads T E) (b : ℕ) (hb : b < 6) (c : Fin 204) (f : Fin 128) :
    chain T b 24 (ix2 c f) = Spec.gu E c ⟨128 * b + f.val, by omega⟩ := by
  rw [chain_at R b hb c f 24 le_rfl, Finset.sum_range]
  refine Finset.sum_congr rfl fun i _ => ?_
  rw [termN, dif_pos i.isLt]

/-- The kernel's hidden value is the stated one. -/
theorem hid_eq (R : Reads T E) (b : Fin 3) (c : Fin 204) (q : Fin 128) :
    hid (F := Ideal) (chain T b.val 24) (chain T (3 + b.val) 24) (ix2 c q) = Spec.hid E c b q := by
  rw [hid_at, chain_gu R _ (by omega), chain_gu R _ (by omega)]
  simp only [Spec.hid, show 128 * (3 + b.val) + q.val = 384 + (128 * b.val + q.val) by ring]

/-- The kernel's quantised hidden value is the stated one. -/
theorem hq_eq (R : Reads T E) (b : Fin 3) (c : Fin 204) (q : Fin 128) :
    hq T b.val (ix2 c q) = Spec.quant E c b q := by
  rw [hq, quant_at, amax_at]
  simp only [hid_eq R b]
  rfl

/-- A choice among three tiles, as one tile chosen by number. -/
theorem ladder (P : ℕ → Fin 128 → EReal) (f : Fin 384) :
    (if h : f.val < 128 then P 0 ⟨f.val, h⟩
      else if h : f.val - 128 < 128 then P 1 ⟨f.val - 128, h⟩ else P 2 ⟨f.val - 128 - 128, by omega⟩)
      = P (f.val / 128) ⟨f.val % 128, by omega⟩ := by
  split
  · have e0 : f.val / 128 = 0 := by omega
    have e1 : f.val % 128 = f.val := by omega
    simp only [e0, e1]
  · split
    · have e0 : f.val / 128 = 1 := by omega
      have e1 : f.val % 128 = f.val - 128 := by omega
      simp only [e0, e1]
    · have e0 : f.val / 128 = 2 := by omega
      have e1 : f.val % 128 = f.val - 128 - 128 := by omega
      simp only [e0, e1]

/-- The three groups together are the stated quantised hidden values. -/
theorem hidden_eq (R : Reads T E) (c : Fin 204) (f : Fin 384) :
    hidden T (ix2 c f) = Spec.quant E c ⟨f.val / 128, by omega⟩ ⟨f.val % 128, by omega⟩ := by
  rw [hidden, group_at]
  refine (ladder (fun b q => hq T b (ix2 c q)) f).trans ?_
  exact hq_eq R ⟨f.val / 128, by omega⟩ c _

/-- A row of the second weights, tile by tile, is the stated one with its scales. -/
theorem w2_eq (R : Reads T E) (d : ℕ) (hd : d < 48) (r : Fin 128) (f : Fin 384) :
    wtile (F := Ideal) (T.s2 (3 * d + f.val / 128)) (T.w2 d (f.val / 128)) (ix2 r ⟨f.val % 128, by omega⟩)
      = E.w2 ⟨128 * d + r.val, by omega⟩ f * E.s2 ⟨d, hd⟩ ⟨f.val / 128, by omega⟩ := by
  rw [wtile_at, R.w2 d _ hd (by omega), R.s2 d _ hd (by omega)]
  simp only [show 128 * (f.val / 128) + f.val % 128 = f.val by omega]

/-- The mask: whether the row is below the expert's count. -/
theorem counted_at (T : Tiles Ideal) (c : Fin 204) :
    counted T (ix2 c 0) = IntOp.cmpi .slt (BitVec.ofNat 32 c.val) T.n := by
  pointwise [counted]

/-- The row weight of a row. -/
theorem rw_at (v : Vec Ideal S1x204x1 .f32) (c : Fin 204) :
    shapeCast S204x1 v shapeCasts_S1x204x1_S204x1 (ix2 c 0) = v (ix3 0 c 0) := by
  pointwise []

/-- Equal factors and equal weights give equal results. -/
theorem out_congr (k : BitVec 1) (A B : Fin 384 → EReal) (a b : EReal) (h : ∀ f, A f = B f) (h' : a = b) :
    Scalar.select k ((∑ f, A f) * a) (0 : EReal) = Scalar.select k ((∑ f, B f) * b) (0 : EReal) := by
  rw [funext h, h']

/-- A column block of the kernel is the result at its columns. -/
theorem block_eq (R : Reads T E) (d : ℕ) (hd : d < 48) (c : Fin 204) (r : Fin 128) :
    block T d (ix3 0 c r) = Spec.out E c ⟨128 * d + r.val, by omega⟩ := by
  rw [block, down_at, counted_at, R.n]
  have e0 : (128 * d + r.val) / 128 = d := by omega
  simp only [Spec.out, e0]
  refine out_congr _ _ _ _ _ (fun f => ?_) ((rw_at _ c).trans (R.rw c))
  rw [hidden_eq R]
  exact congrArg _ ((ladder (fun j q => wtile (F := Ideal) (T.s2 (3 * d + j)) (T.w2 d j) (ix2 r q)) f).trans (w2_eq R d hd r f))

end Cert.KernelIdeal.Step

end
-- ==== Proof.Loaded.lean ====
module

public import proofs.«01_k».proof.Proof.Block
import Idealize.ShloMosaic.Lib.Pipeline.ValueKit.Tiles
import Idealize.ShloMosaic.Lib.WholeRead

/-! # What the body leaves in the result's buffer, from the contents of its input buffers -/

@[expose] public section

set_option maxRecDepth 16384

noncomputable section

namespace Cert.KernelIdeal.Step

open Idealize.ShloMosaic Idealize.ShloMosaic.TcCoe
open Cert.KernelIdeal Cert.KernelIdeal.Gen

variable (c : Dev nD) (i : grid0.Coords) (arg2 : Memref sig .tc .vmem S1x204x6144 .fp8e4m3) (harg2 : arg2.IsWhole)
  (arg3 : Memref sig .tc .vmem S1x204x48 .f32) (harg3 : arg3.IsWhole)
  (arg4 : Memref sig .tc .vmem S1x204x1 .f32) (harg4 : arg4.IsWhole)
  (arg5 : Memref sig .tc .vmem S1x768x6144 .fp8e4m3) (harg5 : arg5.IsWhole)
  (arg6 : Memref sig .tc .smem S80x288 .f32) (harg6 : arg6.IsWhole)
  (arg7 : Memref sig .tc .vmem S1x6144x384 .fp8e4m3) (harg7 : arg7.IsWhole)
  (arg8 : Memref sig .tc .smem S80x144 .f32) (harg8 : arg8.IsWhole)
  (arg9 : Memref sig .tc .vmem S1x204x6144 .bf16) (harg9 : arg9.IsWhole)
  (x0 : Vec Ideal S1x204x6144 .fp8e4m3) (x1 : Vec Ideal S1x204x48 .f32) (x2 : Vec Ideal S1x204x1 .f32)
  (x3 : Vec Ideal S1x768x6144 .fp8e4m3) (x4 : Vec Ideal S80x288 .f32) (x5 : Vec Ideal S1x6144x384 .fp8e4m3)
  (x6 : Vec Ideal S80x144 .f32) (xt0 : TbBuf0 (F := Ideal) c tbM0_0)

/-- The contents of the input buffers at a grid point are one expert's arrays. -/
structure Holds (E : Spec.Expert) : Prop where
  x : ∀ c i, x0 (ix3 0 c i) = E.x c i
  xs : ∀ c k, x1 (ix3 0 c k) = E.xs c k
  rw : ∀ c, x2 (ix3 0 c 0) = E.rw c
  w : ∀ f i, x3 (ix3 0 f i) = E.w f i
  s : ∀ (b : Fin 6) (k : Fin 48), x4 (ix2 (i 0) ⟨48 * b.val + k.val, by omega⟩) = E.s b k
  w2 : ∀ d f, x5 (ix3 0 d f) = E.w2 d f
  s2 : ∀ (d : Fin 48) (j : Fin 3), x6 (ix2 (i 0) ⟨3 * d.val + j.val, by omega⟩) = E.s2 d j
  n : (xt0 : Vec Ideal S80 .i32) (ix1 (i 0)) = E.n

variable {x0 x1 x2 x3 x4 x5 x6 xt0} {E : Spec.Expert}

/-- So the tiles the body loads are that expert's. -/
theorem reads (H : Holds c i x0 x1 x2 x3 x4 x5 x6 xt0 E) :
    Reads (loaded c i arg2 harg2 arg3 harg3 arg4 harg4 arg5 harg5 arg6 harg6 arg7 harg7 arg8 harg8 x0 x1 x2 x3 x4 x5 x6 xt0) E where
  x j hj c q := by
    refine (harg2.readAt_unread x0 _ _).trans ((congrArg x0 ?_).trans (H.x c _))
    funext a
    apply Fin.ext
    fin_cases a
    · rfl
    · show 0 + 1 * c.val = c.val; omega
    · show 128 * (j % 48) + 1 * q.val = 128 * j + q.val; omega
  xs j hj c := by
    refine (harg3.readAt_unread x1 _ _).trans ((congrArg x1 ?_).trans (H.xs c _))
    funext a
    apply Fin.ext
    fin_cases a
    · rfl
    · show 0 + 1 * c.val = c.val; omega
    · show j % 48 + 1 * 0 = j; omega
  w b j hb hj f q := by
    refine (harg5.readAt_unread x3 _ _).trans ((congrArg x3 ?_).trans (H.w _ _))
    funext a
    apply Fin.ext
    fin_cases a
    · rfl
    · show 128 * (b % 6) + 1 * f.val = 128 * b + f.val; omega
    · show 128 * (j % 48) + 1 * q.val = 128 * j + q.val; omega
  s b j hb hj := by
    refine (harg6.readAt_unread x4 _ _).trans ((congrArg x4 ?_).trans (H.s ⟨b, hb⟩ ⟨j, hj⟩))
    have e := row_eq i
    funext a
    apply Fin.ext
    fin_cases a
    · show (Scalar.indexCast (BitVec.ofNat 32 (i 0).val)).toNat + 1 * 0 = (i 0).val; omega
    · show (48 * b + j) % 288 + 1 * 0 = 48 * b + j; omega
  w2 d j hd hj r q := by
    refine (harg7.readAt_unread x5 _ _).trans ((congrArg x5 ?_).trans (H.w2 _ _))
    funext a
    apply Fin.ext
    fin_cases a
    · rfl
    · show 128 * (d % 48) + 1 * r.val = 128 * d + r.val; omega
    · show 128 * (j % 3) + 1 * q.val = 128 * j + q.val; omega
  s2 d j hd hj := by
    refine (harg8.readAt_unread x6 _ _).trans ((congrArg x6 ?_).trans (H.s2 ⟨d, hd⟩ ⟨j, hj⟩))
    have e := row_eq i
    funext a
    apply Fin.ext
    fin_cases a
    · show (Scalar.indexCast (BitVec.ofNat 32 (i 0).val)).toNat + 1 * 0 = (i 0).val; omega
    · show (3 * d + j) % 144 + 1 * 0 = 3 * d + j; omega
  n := by
    refine Eq.trans (congrArg (xt0 : Vec Ideal S80 .i32) ?_) H.n
    have e := row_eq i
    funext a
    apply Fin.ext
    fin_cases a
    show (Scalar.indexCast (BitVec.ofNat 32 (i 0).val)).toNat + 1 * 0 = (i 0).val
    omega
  rw c := by
    refine (harg4.readAt_unread x2 _ _).trans ((congrArg x2 ?_).trans (H.rw c))
    funext a
    apply Fin.ext
    fin_cases a
    · rfl
    · show 0 + 1 * c.val = c.val; omega
    · rfl

/-- The body leaves the expert's result in the result's buffer. -/
theorem out_eq (H : Holds c i x0 x1 x2 x3 x4 x5 x6 xt0 E) (cc : Fin 204) (d : Fin 6144) :
    out0_A_7 (F := Ideal) c i arg2 harg2 arg3 harg3 arg4 harg4 arg5 harg5 arg6 harg6 arg7 harg7 arg8 harg8 arg9 harg9
      x0 x1 x2 x3 x4 x5 x6 xt0 (ix3 0 cc d) = Spec.out E cc d := by
  unfold out0_A_7
  rw [View.read_writes_eq_canon (Val := Elt Ideal) _ _ _ (cover0_A_7 c i arg2 harg2 arg3 harg3 arg4 harg4 arg5 harg5 arg6 harg6 arg7 harg7 arg8 harg8 arg9 harg9
      x0 x1 x2 x3 x4 x5 x6 xt0), pieces_eq]
  refine View.canon_ofFn_unit_eq_of_forall (Val := Elt Ideal) (S := S1x204x6144) (e := .bf16) (fun k : Fin 48 => ![0, 0, 128 * ((47 - k.val) % 48)]) S1x204x128.size _ _ _ _
    ⟨⟨47 - d.val / 128, by omega⟩, fun a => ?_⟩ fun k x hx => ?_
  · fin_cases a
    · exact ⟨Nat.le_refl _, Nat.one_pos⟩
    · exact ⟨Nat.zero_le _, lt_of_lt_of_eq cc.isLt (Nat.zero_add _).symm⟩
    · show 128 * ((47 - (47 - d.val / 128)) % 48) ≤ d.val ∧ d.val < 128 * ((47 - (47 - d.val / 128)) % 48) + 128
      omega
  · have h1 : cc.val = 0 + (x 1).val := hx 1
    have h2 : d.val = 128 * ((47 - k.val) % 48) + (x 2).val := hx 2
    have hk := k.isLt
    have ex : x = ix3 0 cc ⟨d.val - 128 * (47 - k.val), by have := (x 2).isLt; change (x 2).val < 128 at this; omega⟩ := by
      funext a
      apply Fin.ext
      fin_cases a
      · have := (x 0).isLt
        change (x 0).val < 1 at this
        show (x 0).val = 0
        omega
      · show (x 1).val = cc.val; omega
      · show (x 2).val = d.val - 128 * (47 - k.val); omega
    rw [ex]
    refine (block_eq (reads c i arg2 harg2 arg3 harg3 arg4 harg4 arg5 harg5 arg6 harg6 arg7 harg7 arg8 harg8 H) (47 - k.val) (by omega) cc _).trans ?_
    congr 1
    apply Fin.ext
    show 128 * (47 - k.val) + (d.val - 128 * (47 - k.val)) = d.val
    omega

end Cert.KernelIdeal.Step

end
-- ==== Proof.KernelValue.lean ====
module

public import proofs.«01_k».proof.Proof.Loaded

/-! # The kernel's result array

Point `t` of the grid is expert `t`: its input buffers hold that expert's arrays, the body leaves that
expert's result, and the 80 blocks fill the result array. -/

@[expose] public section

set_option maxRecDepth 16384

noncomputable section

namespace Cert.KernelIdeal.Step

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg) (hO : Ok m)

/-- The expert of a grid point. -/
def who (t : Fin grid0.N) : Fin 80 := ⟨t.val, lt_of_lt_of_eq t.isLt (by decide)⟩

/-- The coordinate of a grid point is its number. -/
theorem coords_who : ∀ t : Fin grid0.N, (grid0.coords t 0).val = t.val := by decide +kernel

/-- The block indices of every window at a grid point: the expert first, or 0 for a table that is read whole. -/
theorem maps : ∀ t : Fin grid0.N,
    (cc0_transform_0 (grid0.coords t) 0 = t.val ∧ cc0_transform_0 (grid0.coords t) 1 = 0 ∧ cc0_transform_0 (grid0.coords t) 2 = 0)
    ∧ (cc0_transform_1 (grid0.coords t) 0 = t.val ∧ cc0_transform_1 (grid0.coords t) 1 = 0 ∧ cc0_transform_1 (grid0.coords t) 2 = 0)
    ∧ (cc0_transform_2 (grid0.coords t) 0 = t.val ∧ cc0_transform_2 (grid0.coords t) 1 = 0 ∧ cc0_transform_2 (grid0.coords t) 2 = 0)
    ∧ (cc0_transform_3 (grid0.coords t) 0 = t.val ∧ cc0_transform_3 (grid0.coords t) 1 = 0 ∧ cc0_transform_3 (grid0.coords t) 2 = 0)
    ∧ (cc0_transform_4 (grid0.coords t) 0 = 0 ∧ cc0_transform_4 (grid0.coords t) 1 = 0)
    ∧ (cc0_transform_5 (grid0.coords t) 0 = t.val ∧ cc0_transform_5 (grid0.coords t) 1 = 0 ∧ cc0_transform_5 (grid0.coords t) 2 = 0)
    ∧ (cc0_transform_6 (grid0.coords t) 0 = 0 ∧ cc0_transform_6 (grid0.coords t) 1 = 0)
    ∧ (cc0_transform_7 (grid0.coords t) 0 = t.val ∧ cc0_transform_7 (grid0.coords t) 1 = 0 ∧ cc0_transform_7 (grid0.coords t) 2 = 0) := by
  decide +kernel

/-! ## The host's reshapes -/

/-- The row weights the call finds: the argument with a trailing axis. -/
theorem V_v0 (c : Dev nD) : V m c main_v0
    = shapeCast S80x204x1 (m (c.tc.loc main_arg3) : Vec Ideal S80x204 .f32) shapeCasts_S80x204_S80x204x1 := by
  unfold V
  after_results
  rfl

/-- The first weights' scales the call finds: one row per expert. -/
theorem V_v1 (c : Dev nD) : V m c main_v1
    = shapeCast S80x288 (m (c.tc.loc main_arg5) : Vec Ideal S80x6x48 .f32) shapeCasts_S80x6x48_S80x288 := by
  unfold V
  after_results
  rfl

/-- The second weights' scales the call finds: one row per expert. -/
theorem V_v2 (c : Dev nD) : V m c main_v2
    = shapeCast S80x144 (m (c.tc.loc main_arg7) : Vec Ideal S80x48x3 .f32) shapeCasts_S80x48x3_S80x144 := by
  unfold V
  after_results
  rfl

/-- The reshaped row weights, entry by entry. -/
theorem cast_rw (v : Vec Ideal S80x204 .f32) (e : Fin 80) (c : Fin 204) :
    shapeCast S80x204x1 v shapeCasts_S80x204_S80x204x1 (ix3 e c 0) = v (ix2 e c) := by
  pointwise []

/-- The first weights' scales in one row: entry `48 b + k` is the scale of block `(b, k)`. -/
theorem cast_s (v : Vec Ideal S80x6x48 .f32) (e : Fin 80) (b : Fin 6) (k : Fin 48) :
    shapeCast S80x288 v shapeCasts_S80x6x48_S80x288 (ix2 e ⟨48 * b.val + k.val, by omega⟩) = v (ix3 e b k) := by
  pointwise []

/-- The second weights' scales in one row: entry `3 d + j` is the scale of block `(d, j)`. -/
theorem cast_s2 (v : Vec Ideal S80x48x3 .f32) (e : Fin 80) (d : Fin 48) (j : Fin 3) :
    shapeCast S80x144 v shapeCasts_S80x48x3_S80x144 (ix2 e ⟨3 * d.val + j.val, by omega⟩) = v (ix3 e d j) := by
  pointwise []

/-! ## The input blocks at a grid point -/

/-- The block of `x` is the expert's. -/
theorem blk0 (c : Dev nD) (t : Fin grid0.N) (r : Fin 204) (q : Fin 6144) :
    (iblk m hO c 0 t : Vec Ideal S1x204x6144 .fp8e4m3) (ix3 0 r q) = V m c main_arg0 (ix3 (who t) r q) := by
  obtain ⟨h0, h1, h2⟩ := (maps t).1
  refine (View.read_apply _ _).trans ?_
  show V m c main_arg0 _ = V m c main_arg0 _
  refine congrArg (V m c main_arg0) ?_
  funext a
  apply Fin.ext
  match a with
  | ⟨0, _⟩ => show cc0_transform_0 (grid0.coords t) 0 * 1 + 1 * 0 = t.val; rw [h0]; omega
  | ⟨1, _⟩ => show cc0_transform_0 (grid0.coords t) 1 * 204 + 1 * r.val = r.val; rw [h1]; omega
  | ⟨2, _⟩ => show cc0_transform_0 (grid0.coords t) 2 * 6144 + 1 * q.val = q.val; rw [h2]; omega

/-- The block of the scales of `x` is the expert's. -/
theorem blk1 (c : Dev nD) (t : Fin grid0.N) (r : Fin 204) (q : Fin 48) :
    (iblk m hO c 1 t : Vec Ideal S1x204x48 .f32) (ix3 0 r q) = V m c main_arg1 (ix3 (who t) r q) := by
  obtain ⟨h0, h1, h2⟩ := (maps t).2.1
  refine (View.read_apply _ _).trans ?_
  show V m c main_arg1 _ = V m c main_arg1 _
  refine congrArg (V m c main_arg1) ?_
  funext a
  apply Fin.ext
  match a with
  | ⟨0, _⟩ => show cc0_transform_1 (grid0.coords t) 0 * 1 + 1 * 0 = t.val; rw [h0]; omega
  | ⟨1, _⟩ => show cc0_transform_1 (grid0.coords t) 1 * 204 + 1 * r.val = r.val; rw [h1]; omega
  | ⟨2, _⟩ => show cc0_transform_1 (grid0.coords t) 2 * 48 + 1 * q.val = q.val; rw [h2]; omega

/-- The block of the row weights is the expert's. -/
theorem blk2 (c : Dev nD) (t : Fin grid0.N) (r : Fin 204) (q : Fin 1) :
    (iblk m hO c 2 t : Vec Ideal S1x204x1 .f32) (ix3 0 r q) = V m c main_v0 (ix3 (who t) r q) := by
  obtain ⟨h0, h1, h2⟩ := (maps t).2.2.1
  refine (View.read_apply _ _).trans ?_
  show V m c main_v0 _ = V m c main_v0 _
  refine congrArg (V m c main_v0) ?_
  funext a
  apply Fin.ext
  match a with
  | ⟨0, _⟩ => show cc0_transform_2 (grid0.coords t) 0 * 1 + 1 * 0 = t.val; rw [h0]; omega
  | ⟨1, _⟩ => show cc0_transform_2 (grid0.coords t) 1 * 204 + 1 * r.val = r.val; rw [h1]; omega
  | ⟨2, _⟩ => show cc0_transform_2 (grid0.coords t) 2 * 1 + 1 * q.val = q.val; rw [h2]; omega

/-- The block of the first weights is the expert's. -/
theorem blk3 (c : Dev nD) (t : Fin grid0.N) (r : Fin 768) (q : Fin 6144) :
    (iblk m hO c 3 t : Vec Ideal S1x768x6144 .fp8e4m3) (ix3 0 r q) = V m c main_arg4 (ix3 (who t) r q) := by
  obtain ⟨h0, h1, h2⟩ := (maps t).2.2.2.1
  refine (View.read_apply _ _).trans ?_
  show V m c main_arg4 _ = V m c main_arg4 _
  refine congrArg (V m c main_arg4) ?_
  funext a
  apply Fin.ext
  match a with
  | ⟨0, _⟩ => show cc0_transform_3 (grid0.coords t) 0 * 1 + 1 * 0 = t.val; rw [h0]; omega
  | ⟨1, _⟩ => show cc0_transform_3 (grid0.coords t) 1 * 768 + 1 * r.val = r.val; rw [h1]; omega
  | ⟨2, _⟩ => show cc0_transform_3 (grid0.coords t) 2 * 6144 + 1 * q.val = q.val; rw [h2]; omega

/-- The block of the second weights is the expert's. -/
theorem blk5 (c : Dev nD) (t : Fin grid0.N) (r : Fin 6144) (q : Fin 384) :
    (iblk m hO c 5 t : Vec Ideal S1x6144x384 .fp8e4m3) (ix3 0 r q) = V m c main_arg6 (ix3 (who t) r q) := by
  obtain ⟨h0, h1, h2⟩ := (maps t).2.2.2.2.2.1
  refine (View.read_apply _ _).trans ?_
  show V m c main_arg6 _ = V m c main_arg6 _
  refine congrArg (V m c main_arg6) ?_
  funext a
  apply Fin.ext
  match a with
  | ⟨0, _⟩ => show cc0_transform_5 (grid0.coords t) 0 * 1 + 1 * 0 = t.val; rw [h0]; omega
  | ⟨1, _⟩ => show cc0_transform_5 (grid0.coords t) 1 * 6144 + 1 * r.val = r.val; rw [h1]; omega
  | ⟨2, _⟩ => show cc0_transform_5 (grid0.coords t) 2 * 384 + 1 * q.val = q.val; rw [h2]; omega

/-- The table of the first weights' scales is read whole. -/
theorem blk4 (c : Dev nD) (t : Fin grid0.N) (r : Fin 80) (q : Fin 288) :
    (iblk m hO c 4 t : Vec Ideal S80x288 .f32) (ix2 r q) = V m c main_v1 (ix2 r q) := by
  obtain ⟨h0, h1⟩ := (maps t).2.2.2.2.1
  refine (View.read_apply _ _).trans ?_
  show V m c main_v1 _ = V m c main_v1 _
  refine congrArg (V m c main_v1) ?_
  funext a
  apply Fin.ext
  match a with
  | ⟨0, _⟩ => show cc0_transform_4 (grid0.coords t) 0 * 80 + 1 * r.val = r.val; rw [h0]; omega
  | ⟨1, _⟩ => show cc0_transform_4 (grid0.coords t) 1 * 288 + 1 * q.val = q.val; rw [h1]; omega

/-- The table of the second weights' scales is read whole. -/
theorem blk6 (c : Dev nD) (t : Fin grid0.N) (r : Fin 80) (q : Fin 144) :
    (iblk m hO c 6 t : Vec Ideal S80x144 .f32) (ix2 r q) = V m c main_v2 (ix2 r q) := by
  obtain ⟨h0, h1⟩ := (maps t).2.2.2.2.2.2.1
  refine (View.read_apply _ _).trans ?_
  show V m c main_v2 _ = V m c main_v2 _
  refine congrArg (V m c main_v2) ?_
  funext a
  apply Fin.ext
  match a with
  | ⟨0, _⟩ => show cc0_transform_6 (grid0.coords t) 0 * 80 + 1 * r.val = r.val; rw [h0]; omega
  | ⟨1, _⟩ => show cc0_transform_6 (grid0.coords t) 1 * 144 + 1 * q.val = q.val; rw [h1]; omega

/-- The arrays of one expert, out of the launch memory. -/
def exp (c : Dev nD) (e : Fin 80) : Spec.Expert :=
  Spec.expert (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) e

/-- The whole result, out of the launch memory. -/
def res (c : Dev nD) : Vec Ideal S80x204x6144 .bf16 :=
  Spec.result (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))

/-- The coordinate of a grid point is its expert. -/
theorem coords_eq (t : Fin grid0.N) : (grid0.coords t 0 : Fin 80) = who t := Fin.ext (coords_who t)

/-- What the body finds at a grid point is its expert's arrays. -/
theorem holds (c : Dev nD) (t : Fin grid0.N) :
    Holds c (grid0.coords t) (iblk m hO c 0 t) (iblk m hO c 1 t) (iblk m hO c 2 t) (iblk m hO c 3 t) (iblk m hO c 4 t)
      (iblk m hO c 5 t) (iblk m hO c 6 t) (tbl m 0) (exp m c (who t)) where
  x cc i := (blk0 m hO c t cc i).trans (congrFun (V_main_arg0 m c) _)
  xs cc k := (blk1 m hO c t cc k).trans (congrFun (V_main_arg1 m c) _)
  rw cc := (blk2 m hO c t cc 0).trans ((congrFun (V_v0 m c) _).trans (cast_rw _ _ _))
  w f i := (blk3 m hO c t f i).trans (congrFun (V_main_arg4 m c) _)
  s b k := (blk4 m hO c t _ _).trans ((congrFun (V_v1 m c) _).trans ((cast_s _ _ b k).trans (by rw [coords_eq]; rfl)))
  w2 d f := (blk5 m hO c t d f).trans (congrFun (V_main_arg6 m c) _)
  s2 d j := (blk6 m hO c t _ _).trans ((congrFun (V_v2 m c) _).trans ((cast_s2 _ _ d j).trans (by rw [coords_eq]; rfl)))
  n := by
    obtain rfl : c = (0 : Dev nD) := Subsingleton.elim _ _
    refine (congrFun (V_main_arg2 m 0) _).trans (congrArg (m ((0 : Dev nD).tc.loc main_arg2) : Vec Ideal S80 .i32) ?_)
    exact congrArg (fun e : Fin 80 => (ix1 e : S80.Idx)) (coords_eq t)

/-- An index of a block is a row and a column. -/
theorem one_block (y : S1x204x6144.Idx) : ∃ (r : Fin 204) (q : Fin 6144), y = ix3 0 r q := by
  refine ⟨y 1, y 2, ?_⟩
  funext a
  apply Fin.ext
  match a with
  | ⟨0, _⟩ => exact Nat.lt_one_iff.mp (y 0).isLt
  | ⟨1, _⟩ => rfl
  | ⟨2, _⟩ => rfl

/-- What a point writes back is its block of the result. -/
theorem flushed_eq (c : Dev nD) (t : Fin grid0.N) :
    (dats m hO 0 c).flushed 7 t = (((cfgM m hO).win 7).blk t).view.read (Elt Ideal) (res m c) := by
  obtain ⟨h0, h1, h2⟩ := (maps t).2.2.2.2.2.2.2
  show ((cfgM m hO).win 7).cut ((cfgM m hO).grid.coords t) ((dats m hO 0 c).after 7 t) = _
  rw [after0_7]
  refine funext fun (y : S1x204x6144.Idx) => ?_
  obtain ⟨r, q, rfl⟩ := one_block y
  refine Eq.trans ?_ (View.read_apply _ _).symm
  show (outsAt0 m hO c t : Vec Ideal S1x204x6144 .bf16) (ix3 0 r q) = res m c _
  refine (out_eq c _ _ _ _ _ _ _ _ _ _ _ _ _ _ _ _ _ (holds m hO c t) r q).trans ?_
  show res m c (ix3 (who t) r q) = res m c _
  refine congrArg (res m c) ?_
  funext a
  apply Fin.ext
  match a with
  | ⟨0, _⟩ => show t.val = cc0_transform_7 (grid0.coords t) 0 * 1 + 1 * 0; rw [h0]; omega
  | ⟨1, _⟩ => show r.val = cc0_transform_7 (grid0.coords t) 1 * 204 + 1 * r.val; rw [h1]; omega
  | ⟨2, _⟩ => show q.val = cc0_transform_7 (grid0.coords t) 2 * 6144 + 1 * q.val; rw [h2]; omega

/-- Every index of the result lies in the block of its expert. -/
theorem cover (i : S80x204x6144.Idx) :
    ∃ t : Fin grid0.N, i ∈ (((cfgM m hO).win 7).blk t).view.set := by
  let t : Fin grid0.N := ⟨(i 0).val, lt_of_lt_of_eq (i 0).isLt (by decide)⟩
  obtain ⟨h0, h1, h2⟩ := (maps t).2.2.2.2.2.2.2
  refine ⟨t, ?_⟩
  have hs : (((cfgM m hO).win 7).blk t).view.set = (((cfgM m hO).win 7).rect t).set := View.set_slice_whole main_v3 _
  refine hs.symm ▸ (Rect.mem_set_unit.mpr fun a => ?_)
  have b1 : (i 1 : ℕ) < 204 := (i 1).isLt
  have b2 : (i 2 : ℕ) < 6144 := (i 2).isLt
  match a with
  | ⟨0, _⟩ =>
    show cc0_transform_7 (grid0.coords t) 0 * 1 ≤ (i 0 : ℕ) ∧ (i 0 : ℕ) < cc0_transform_7 (grid0.coords t) 0 * 1 + 1
    rw [h0]
    show (i 0 : ℕ) * 1 ≤ (i 0 : ℕ) ∧ (i 0 : ℕ) < (i 0 : ℕ) * 1 + 1
    omega
  | ⟨1, _⟩ =>
    show cc0_transform_7 (grid0.coords t) 1 * 204 ≤ (i 1 : ℕ) ∧ (i 1 : ℕ) < cc0_transform_7 (grid0.coords t) 1 * 204 + 204
    rw [h1]; omega
  | ⟨2, _⟩ =>
    show cc0_transform_7 (grid0.coords t) 2 * 6144 ≤ (i 2 : ℕ) ∧ (i 2 : ℕ) < cc0_transform_7 (grid0.coords t) 2 * 6144 + 6144
    rw [h2]; omega

/-- The result array after the run. -/
theorem final (c : Dev nD) : (dats m hO 0 c).arrAt 7 (cfgM m hO).N = res m c :=
  (dats m hO 0 c).arrAt_eq_of_cover 7 (res m c) (fun t _ => flushed_eq m hO c t) fun i =>
    (cover m hO i).imp fun t h => ⟨flush0_7 _ t, h⟩

include hO in
/-- The run of the kernel: the result array is the stated one, the arguments are unchanged. -/
theorem run : θ_run defs (onTc (τ := τ) (main (F := Ideal))) ⟨m, fun _ => 0, ρ⟩ fun r => ∀ c : Dev nD,
      r.2.mem (c.tc.loc main_v3) = res m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun _ h c => ⟨(h.1 c).trans (final m hO c), h.2 c⟩)
    (θ_run_and ((θ_run defs _ _).mono (fun _ h c => (h c).1 7) (run_main m ρ hO)) (unchanged m ρ hO))

end Cert.KernelIdeal.Step

end
-- ==== Proof.RefValue.lean ====
module

public import Idealize.ShloMosaic.Lib.Pointwise
public import proofs.«01_k».proof.Proof.Gen.ReferenceIdeal.Value
public import proofs.«01_k».proof.Proof.Spec

/-! # The reference's result, entry by entry -/

@[expose] public section

set_option maxRecDepth 16384

noncomputable section

namespace Cert.ReferenceIdeal.RefValue

open Idealize.ShloMosaic
open Cert.ReferenceIdeal Cert.ReferenceIdeal.Gen
open scoped BigOperators

/-- The reference's arrays at one expert. -/
structure Reads (v0 : Vec Ideal S80x204x6144 .fp8e4m3) (v2 : Vec Ideal S80x204x6144 .f32) (v6 : Vec Ideal S80x768x6144 .fp8e4m3)
    (v8 : Vec Ideal S80x768x6144 .f32) (v54 : Vec Ideal S80x6144x384 .fp8e4m3) (v56 : Vec Ideal S80x6144x384 .f32)
    (v62 : Vec Ideal S80x1x1 .i32) (v66 : Vec Ideal S80x204x1 .f32) (e : Fin 80) (E : Spec.Expert) : Prop where
  x : ∀ c i, v0 (ix3 e c i) = E.x c i
  xs : ∀ (c : Fin 204) (i : Fin 6144), v2 (ix3 e c i) = E.xs c ⟨i.val / 128, by omega⟩
  w : ∀ f i, v6 (ix3 e f i) = E.w f i
  s : ∀ (f : Fin 768) (i : Fin 6144), v8 (ix3 e f i) = E.s ⟨f.val / 128, by omega⟩ ⟨i.val / 128, by omega⟩
  w2 : ∀ d f, v54 (ix3 e d f) = E.w2 d f
  s2 : ∀ (d : Fin 6144) (f : Fin 384), v56 (ix3 e d f) = E.s2 ⟨d.val / 128, by omega⟩ ⟨f.val / 128, by omega⟩
  n : v62 (ix3 e 0 0) = E.n
  rw : ∀ c, v66 (ix3 e c 0) = E.rw c

variable {v0 : Vec Ideal S80x204x6144 .fp8e4m3} {v2 : Vec Ideal S80x204x6144 .f32} {v6 : Vec Ideal S80x768x6144 .fp8e4m3}
  {v8 : Vec Ideal S80x768x6144 .f32} {v54 : Vec Ideal S80x6144x384 .fp8e4m3} {v56 : Vec Ideal S80x6144x384 .f32}
  {v62 : Vec Ideal S80x1x1 .i32} {v66 : Vec Ideal S80x204x1 .f32} {e : Fin 80} {E : Spec.Expert}

/-- The least power of two above `a / 448`, as the reference's program spells it. -/
def least (a : FVec Ideal S80x204x3x1 .f32) : FVec Ideal S80x204x3x1 .f32 :=
  have v24 : IVec S1x1x1x247 32 := iota .tc S1x1x1x247 32 [3] iota_S1x1x1x247_d3_w32
  have v28 : FVec Ideal S1x1x1x247 .f32 := exp2 (sitofp .f32 (subi v24 (broadcast S1x1x1x247 126#32)))
  have v31 : IVec S80x204x3x247 1 := cmpf .olt
    (broadcastTo S80x204x3x247 (mulf a (broadcast S80x204x3x1 (Scalar.ofBits .f32 0x3B124925#32))) broadcasts_S80x204x3x1_S80x204x3x247)
    (broadcastTo S80x204x3x247 v28 broadcasts_S1x1x1x247_S80x204x3x247)
  have v35 : FVec Ideal S80x204x3x247 .f32 := select v31
    (broadcastTo S80x204x3x247 (shapeCast S1x1x1x247 v28 shapeCasts_S1x1x1x247_S1x1x1x247) broadcasts_S1x1x1x247_S80x204x3x247)
    (broadcast S80x204x3x247 (Scalar.ofBits .f32 0x7B800000#32))
  shapeCast S80x204x3x1 (multiReduction .minimumf [3] S80x204x3 v35 0x7F800000#32 reduces_S80x204x3x247_S80x204x3 (.inl rfl) rfl)
    shapeCasts_S80x204x3_S80x204x3x1

/-- The program's scale is `least` of the largest magnitudes. -/
theorem pay4_eq : k0_pay4 (F := Ideal) v0 v2 v6 v8 = least (k0_pay3 (F := Ideal) v0 v2 v6 v8) := rfl

/-- The program's test for a zero maximum. -/
theorem pay5_eq : k0_pay5 (F := Ideal) v0 v2 v6 v8
    = cmpf .oeq (k0_pay3 (F := Ideal) v0 v2 v6 v8) (broadcast S80x204x3x1 (Scalar.ofBits .f32 0x00000000#32)) := rfl

/-- The exponents the program counts through: -126, ..., 120. -/
theorem word_int : ∀ k : Fin 247, (IntOp.subi (BitVec.ofNat 32 k.val) 126#32).toInt = (k.val : ℤ) - 126 := by decide +kernel

/-- The powers of two the reference compares with. -/
theorem power (k : Fin 247) :
    (FloatOps.exp2 (FloatOps.sitofp .f32 (IntOp.subi (BitVec.ofNat 32 k.val) 126#32) : Ideal .f32) : Ideal .f32)
      = Scale.pw ((k.val : ℤ) - 126) := by
  show Ideal.exp2 ((((IntOp.subi (BitVec.ofNat 32 k.val) 126#32).toInt : ℝ)) : EReal) = _
  rw [word_int k, Ideal.exp2_coe, Scale.pw]
  congr 1
  exact Real.rpow_intCast 2 _

/-- The constant that stands for "no power is above" is 2^120. -/
theorem last_word : Ideal.ofBits .f32 0x7B800000#32 = Scale.pw 120 :=
  Scale.ofBits_word (n := 247) (by decide) (by decide)

/-- The minimum starts at infinity. -/
theorem top_word : Ideal.ofBits .f32 0x7F800000#32 = ⊤ := by
  simp [Ideal.ofBits, Ideal.ieee]

/-- The least power of two, entry by entry, by the count of the powers not above the value. -/
theorem least_at (a : FVec Ideal S80x204x3x1 .f32) (e : Fin 80) (c : Fin 204) (b : Fin 3) :
    least a (ix4 e c b 0) = Scale.pw ((Scale.cnt (a (ix4 e c b 0) * Ideal.ofBits .f32 0x3B124925#32) : ℤ) - 126) := by
  pointwise [least]
  rw [← Scale.min_scale, top_word]
  congr 1
  funext k
  rw [power k, last_word]

/-- The test for a zero maximum, entry by entry. -/
theorem zero_at (a : FVec Ideal S80x204x3x1 .f32) (e : Fin 80) (c : Fin 204) (b : Fin 3) :
    cmpf (F := Ideal) .oeq a (broadcast S80x204x3x1 (Scalar.ofBits .f32 0x00000000#32)) (ix4 e c b 0)
      = BitVec.ofBool (decide (a (ix4 e c b 0) = (0 : EReal))) := by
  pointwise []

/-- The scale of a group. -/
def scale (v37 : FVec Ideal S80x204x3x1 .f32) (v39 : IVec S80x204x3x1 1) (e : Fin 80) (c : Fin 204) (b : Fin 3) : EReal :=
  Scalar.select (v39 (ix4 e c b 0)) (1 : EReal) (v37 (ix4 e c b 0))

/-- The program's hidden values are the stated ones. -/
theorem pay2_at (R : Reads v0 v2 v6 v8 v54 v56 v62 v66 e E) (c : Fin 204) (b : Fin 3) (q : Fin 128) :
    k0_pay2 (F := Ideal) v0 v2 v6 v8 (ix4 e c b q) = Spec.hid E c b q := by
  pointwise [k0_pay2]
  simp only [R.x, R.xs, R.w, R.s, Spec.hid, Spec.gu, Spec.term, Nat.mul_comm b.val 128]

/-- The program's largest magnitudes are the stated ones. -/
theorem pay3_at (R : Reads v0 v2 v6 v8 v54 v56 v62 v66 e E) (c : Fin 204) (b : Fin 3) :
    k0_pay3 (F := Ideal) v0 v2 v6 v8 (ix4 e c b 0) = Spec.amax E c b := by
  pointwise [k0_pay3]
  simp only [pay2_at R]
  rfl

/-- The program's result, entry by entry, from its hidden values and scales. -/
theorem pay1_at (v18 : FVec Ideal S80x204x3x128 .f32) (v37 : FVec Ideal S80x204x3x1 .f32) (v39 : IVec S80x204x3x1 1)
    (v54 : Vec Ideal S80x6144x384 .fp8e4m3) (v56 : Vec Ideal S80x6144x384 .f32) (v62 : Vec Ideal S80x1x1 .i32)
    (v66 : Vec Ideal S80x204x1 .f32) (e : Fin 80) (c : Fin 204) (d : Fin 6144) :
    k0_pay1 (F := Ideal) v18 v37 v39 (Scalar.ofBits .f32 0x3F800000#32) v54 v56 v62 v66 (ix3 e c d)
      = Scalar.select (IntOp.cmpi .slt (BitVec.ofNat 32 c.val) (v62 (ix3 e 0 0)))
        ((∑ f : Fin 384, (min (Ideal.ofBits .f32 0x43E00000#32) (max (Ideal.ofBits .f32 0xC3E00000#32)
            (Ideal.div (v18 (ix4 e c ⟨f.val / 128, by omega⟩ ⟨f.val % 128, by omega⟩)) (scale v37 v39 e c ⟨f.val / 128, by omega⟩)))
            * scale v37 v39 e c ⟨f.val / 128, by omega⟩) * (v54 (ix3 e d f) * v56 (ix3 e d f))) * v66 (ix3 e c 0)) (0 : EReal) := by
  pointwise [k0_pay1]
  rfl

/-- The scale the reference divides by is the least power of two above a group's largest magnitude over 448. -/
theorem scale_eq (R : Reads v0 v2 v6 v8 v54 v56 v62 v66 e E) (c : Fin 204) (b : Fin 3) :
    scale (k0_pay4 (F := Ideal) v0 v2 v6 v8) (k0_pay5 (F := Ideal) v0 v2 v6 v8) e c b = Scale.S (Spec.amax E c b) := by
  rw [scale, pay4_eq, pay5_eq, zero_at, least_at, pay3_at R, Scale.S]
  by_cases h : Spec.amax E c b = 0
  · rw [if_pos h, decide_eq_true h]; rfl
  · rw [if_neg h, decide_eq_false h]; rfl

/-- The reference's block is the result. -/
theorem value (R : Reads v0 v2 v6 v8 v54 v56 v62 v66 e E) (c : Fin 204) (d : Fin 6144) :
    k0_pay1 (F := Ideal) (k0_pay2 (F := Ideal) v0 v2 v6 v8) (k0_pay4 (F := Ideal) v0 v2 v6 v8) (k0_pay5 (F := Ideal) v0 v2 v6 v8)
      (Scalar.ofBits .f32 0x3F800000#32) v54 v56 v62 v66 (ix3 e c d) = Spec.out E c d := by
  rw [pay1_at]
  simp only [scale_eq R, pay2_at R, R.w2, R.s2, R.n, R.rw, Scale.div_S]
  rfl

end Cert.ReferenceIdeal.RefValue

end
-- ==== Proof.RefArray.lean ====
module

public import Idealize.ShloMosaic.Lib.Pipeline.ValueKit
public import proofs.«01_k».proof.Proof.RefValue

/-! # The reference's result array

The reference's one call sees every array whole. Its scales were repeated before the call, one entry per
element: entry `(e, c, i)` is the scale of group `i / 128`, and for the weights row `f` takes row `f / 128`. -/

@[expose] public section

set_option maxRecDepth 16384

noncomputable section

namespace Cert.ReferenceIdeal.RefValue

open Idealize.ShloMosaic Idealize.ShloMosaic.TcCoe Idealize.SL.Sem
open Cert.ReferenceIdeal Cert.ReferenceIdeal.Gen
open Idealize.ShloMosaic.Pipeline (Dat)

variable (m : (ℓ : Loc nD τ sig) → Buf (Elt Ideal) ℓ) (ρ : Dev nD → PrngReg)

/-! ## The lines before the call -/

/-- The scales of `x`, one per element. -/
def rep1 (v : Vec Ideal S80x204x48 .f32) : Vec Ideal S80x204x6144 .f32 :=
  shapeCast S80x204x6144 (broadcastInDim S80x204x48x128 ![0, 1, 2] bcast_S80x204x48_S80x204x48x128_0_1_2 v)
    shapeCasts_S80x204x48x128_S80x204x6144

/-- The first weights' scales, one per element. -/
def rep5 (v : Vec Ideal S80x6x48 .f32) : Vec Ideal S80x768x6144 .f32 :=
  shapeCast S80x768x6144 (broadcastInDim S80x768x48x128 ![0, 1, 2] bcast_S80x768x48_S80x768x48x128_0_1_2
    (shapeCast S80x768x48 (broadcastInDim S80x6x128x48 ![0, 1, 3] bcast_S80x6x48_S80x6x128x48_0_1_3 v)
      shapeCasts_S80x6x128x48_S80x768x48)) shapeCasts_S80x768x48x128_S80x768x6144

/-- The second weights' scales, one per element. -/
def rep7 (v : Vec Ideal S80x48x3 .f32) : Vec Ideal S80x6144x384 .f32 :=
  shapeCast S80x6144x384 (broadcastInDim S80x6144x3x128 ![0, 1, 2] bcast_S80x6144x3_S80x6144x3x128_0_1_2
    (shapeCast S80x6144x3 (broadcastInDim S80x48x128x3 ![0, 1, 3] bcast_S80x48x3_S80x48x128x3_0_1_3 v)
      shapeCasts_S80x48x128x3_S80x6144x3)) shapeCasts_S80x6144x3x128_S80x6144x384

/-- The call finds the scales of `x` repeated. -/
theorem V_v1 (c : Dev nD) : V m c main_v1 = rep1 (m (c.tc.loc main_arg1)) := by
  unfold V
  after_results
  rfl

/-- The call finds the counts with two trailing axes. -/
theorem V_v2 (c : Dev nD) : V m c main_v2
    = shapeCast S80x1x1 (m (c.tc.loc main_arg2) : Vec Ideal S80 .i32) shapeCasts_S80_S80x1x1 := by
  unfold V
  after_results
  rfl

/-- The call finds the row weights with a trailing axis. -/
theorem V_v3 (c : Dev nD) : V m c main_v3
    = shapeCast S80x204x1 (m (c.tc.loc main_arg3) : Vec Ideal S80x204 .f32) shapeCasts_S80x204_S80x204x1 := by
  unfold V
  after_results
  rfl

/-- The call finds the first weights' scales repeated. -/
theorem V_v7 (c : Dev nD) : V m c main_v7 = rep5 (m (c.tc.loc main_arg5)) := by
  unfold V
  after_results
  rfl

/-- The call finds the second weights' scales repeated. -/
theorem V_v11 (c : Dev nD) : V m c main_v11 = rep7 (m (c.tc.loc main_arg7)) := by
  unfold V
  after_results
  rfl

/-- Element `i` has the scale of group `i / 128`. -/
theorem rep1_at (v : Vec Ideal S80x204x48 .f32) (e : Fin 80) (c : Fin 204) (i : Fin 6144) :
    rep1 v (ix3 e c i) = v (ix3 e c ⟨i.val / 128, by omega⟩) := by
  pointwise [rep1]

/-- Element `(f, i)` has the scale of block `(f / 128, i / 128)`. -/
theorem rep5_at (v : Vec Ideal S80x6x48 .f32) (e : Fin 80) (f : Fin 768) (i : Fin 6144) :
    rep5 v (ix3 e f i) = v (ix3 e ⟨f.val / 128, by omega⟩ ⟨i.val / 128, by omega⟩) := by
  pointwise [rep5]

/-- Element `(d, f)` has the scale of block `(d / 128, f / 128)`. -/
theorem rep7_at (v : Vec Ideal S80x48x3 .f32) (e : Fin 80) (d : Fin 6144) (f : Fin 384) :
    rep7 v (ix3 e d f) = v (ix3 e ⟨d.val / 128, by omega⟩ ⟨f.val / 128, by omega⟩) := by
  pointwise [rep7]

/-- The reshaped counts, entry by entry. -/
theorem cast_n (v : Vec Ideal S80 .i32) (e : Fin 80) :
    shapeCast S80x1x1 v shapeCasts_S80_S80x1x1 (ix3 e 0 0) = v (ix1 e) := by
  pointwise []

/-- The reshaped row weights, entry by entry. -/
theorem cast_rw (v : Vec Ideal S80x204 .f32) (e : Fin 80) (c : Fin 204) :
    shapeCast S80x204x1 v shapeCasts_S80x204_S80x204x1 (ix3 e c 0) = v (ix2 e c) := by
  pointwise []

/-! ## Each input window is its whole array -/

/-- Reading a whole array through a block at the origin changes nothing. -/
theorem origin {S : Shape} (y : S.Idx) (x : S.Idx) (h : ∀ a, (x a).val = 0 * S.size a + 1 * (y a).val) : x = y :=
  funext fun a => Fin.ext (by rw [h a, Nat.zero_mul, Nat.zero_add, Nat.one_mul])

/-- `x` is read whole. -/
theorem blk0 (c : Dev nD) (t : Fin cfg0.N) : (iblk m c 0 t : Vec Ideal S80x204x6144 .fp8e4m3) = V m c main_arg0 := by
  refine funext fun (y : S80x204x6144.Idx) => ?_
  refine (View.read_apply _ _).trans ?_
  show V m c main_arg0 _ = V m c main_arg0 _
  exact congrArg (V m c main_arg0) (origin (S := S80x204x6144) y _ fun a => rfl)

/-- Its repeated scales are read whole. -/
theorem blk1 (c : Dev nD) (t : Fin cfg0.N) : (iblk m c 1 t : Vec Ideal S80x204x6144 .f32) = V m c main_v1 := by
  refine funext fun (y : S80x204x6144.Idx) => ?_
  refine (View.read_apply _ _).trans ?_
  show V m c main_v1 _ = V m c main_v1 _
  exact congrArg (V m c main_v1) (origin (S := S80x204x6144) y _ fun a => rfl)

/-- The counts are read whole. -/
theorem blk2 (c : Dev nD) (t : Fin cfg0.N) : (iblk m c 2 t : Vec Ideal S80x1x1 .i32) = V m c main_v2 := by
  refine funext fun (y : S80x1x1.Idx) => ?_
  refine (View.read_apply _ _).trans ?_
  show V m c main_v2 _ = V m c main_v2 _
  exact congrArg (V m c main_v2) (origin (S := S80x1x1) y _ fun a => rfl)

/-- The row weights are read whole. -/
theorem blk3 (c : Dev nD) (t : Fin cfg0.N) : (iblk m c 3 t : Vec Ideal S80x204x1 .f32) = V m c main_v3 := by
  refine funext fun (y : S80x204x1.Idx) => ?_
  refine (View.read_apply _ _).trans ?_
  show V m c main_v3 _ = V m c main_v3 _
  exact congrArg (V m c main_v3) (origin (S := S80x204x1) y _ fun a => rfl)

/-- The first weights are read whole. -/
theorem blk4 (c : Dev nD) (t : Fin cfg0.N) : (iblk m c 4 t : Vec Ideal S80x768x6144 .fp8e4m3) = V m c main_arg4 := by
  refine funext fun (y : S80x768x6144.Idx) => ?_
  refine (View.read_apply _ _).trans ?_
  show V m c main_arg4 _ = V m c main_arg4 _
  exact congrArg (V m c main_arg4) (origin (S := S80x768x6144) y _ fun a => rfl)

/-- Their repeated scales are read whole. -/
theorem blk5 (c : Dev nD) (t : Fin cfg0.N) : (iblk m c 5 t : Vec Ideal S80x768x6144 .f32) = V m c main_v7 := by
  refine funext fun (y : S80x768x6144.Idx) => ?_
  refine (View.read_apply _ _).trans ?_
  show V m c main_v7 _ = V m c main_v7 _
  exact congrArg (V m c main_v7) (origin (S := S80x768x6144) y _ fun a => rfl)

/-- The second weights are read whole. -/
theorem blk6 (c : Dev nD) (t : Fin cfg0.N) : (iblk m c 6 t : Vec Ideal S80x6144x384 .fp8e4m3) = V m c main_arg6 := by
  refine funext fun (y : S80x6144x384.Idx) => ?_
  refine (View.read_apply _ _).trans ?_
  show V m c main_arg6 _ = V m c main_arg6 _
  exact congrArg (V m c main_arg6) (origin (S := S80x6144x384) y _ fun a => rfl)

/-- Their repeated scales are read whole. -/
theorem blk7 (c : Dev nD) (t : Fin cfg0.N) : (iblk m c 7 t : Vec Ideal S80x6144x384 .f32) = V m c main_v11 := by
  refine funext fun (y : S80x6144x384.Idx) => ?_
  refine (View.read_apply _ _).trans ?_
  show V m c main_v11 _ = V m c main_v11 _
  exact congrArg (V m c main_v11) (origin (S := S80x6144x384) y _ fun a => rfl)

/-- The whole result, out of the launch memory. -/
def res (c : Dev nD) : Vec Ideal S80x204x6144 .bf16 :=
  Spec.result (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))

/-- What the call finds is one expert's arrays, the scales repeated. -/
theorem reads (c : Dev nD) (t : Fin cfg0.N) (e : Fin 80) :
    Reads (iblk m c 0 t) (iblk m c 1 t) (iblk m c 4 t) (iblk m c 5 t) (iblk m c 6 t) (iblk m c 7 t) (iblk m c 2 t) (iblk m c 3 t) e
      (Spec.expert (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7)) e) where
  x cc i := congrFun ((blk0 m c t).trans (V_main_arg0 m c)) _
  xs cc i := (congrFun ((blk1 m c t).trans (V_v1 m c)) _).trans (rep1_at _ e cc i)
  w f i := congrFun ((blk4 m c t).trans (V_main_arg4 m c)) _
  s f i := (congrFun ((blk5 m c t).trans (V_v7 m c)) _).trans (rep5_at _ e f i)
  w2 d f := congrFun ((blk6 m c t).trans (V_main_arg6 m c)) _
  s2 d f := (congrFun ((blk7 m c t).trans (V_v11 m c)) _).trans (rep7_at _ e d f)
  n := (congrFun ((blk2 m c t).trans (V_v2 m c)) _).trans (cast_n _ e)
  rw cc := (congrFun ((blk3 m c t).trans (V_v3 m c)) _).trans (cast_rw _ e cc)

/-! ## The call's result -/

/-- The body stores once, over the whole block, and loads each whole block. -/
theorem out_whole (x0 : Vec Ideal S80x204x6144 .fp8e4m3) (x1 : Vec Ideal S80x204x6144 .f32) (x2 : Vec Ideal S80x1x1 .i32)
    (x3 : Vec Ideal S80x204x1 .f32) (x4 : Vec Ideal S80x768x6144 .fp8e4m3) (x5 : Vec Ideal S80x768x6144 .f32)
    (x6 : Vec Ideal S80x6144x384 .fp8e4m3) (x7 : Vec Ideal S80x6144x384 .f32) :
    out0_8 x0 x1 x2 x3 x4 x5 x6 x7
      = k0_pay1 (k0_pay2 x0 x1 x4 x5) (k0_pay4 x0 x1 x4 x5) (k0_pay5 x0 x1 x4 x5) (Scalar.ofBits .f32 0x3F800000#32) x6 x7 x2 x3 := by
  refine (View.canon_cons_unit_lit (Val := Elt Ideal) (S := S80x204x6144) (e := .bf16) inb_S80x204x6144_S80x204x6144_0_0_0 _ [] (by decide)).trans ?_
  rw [show View.ld x0 r0_0 = x0 from View.ld_unit_lit (Val := Elt Ideal) (S := S80x204x6144) (e := .fp8e4m3) _ x0 (by decide),
    show View.ld x1 r0_0 = x1 from View.ld_unit_lit (Val := Elt Ideal) (S := S80x204x6144) (e := .f32) _ x1 (by decide),
    show View.ld x2 r0_3 = x2 from View.ld_unit_lit (Val := Elt Ideal) (S := S80x1x1) (e := .i32) _ x2 (by decide),
    show View.ld x3 r0_4 = x3 from View.ld_unit_lit (Val := Elt Ideal) (S := S80x204x1) (e := .f32) _ x3 (by decide),
    show View.ld x4 r0_1 = x4 from View.ld_unit_lit (Val := Elt Ideal) (S := S80x768x6144) (e := .fp8e4m3) _ x4 (by decide),
    show View.ld x5 r0_1 = x5 from View.ld_unit_lit (Val := Elt Ideal) (S := S80x768x6144) (e := .f32) _ x5 (by decide),
    show View.ld x6 r0_2 = x6 from View.ld_unit_lit (Val := Elt Ideal) (S := S80x6144x384) (e := .fp8e4m3) _ x6 (by decide),
    show View.ld x7 r0_2 = x7 from View.ld_unit_lit (Val := Elt Ideal) (S := S80x6144x384) (e := .f32) _ x7 (by decide)]

/-- An index of the result is an expert, a row and a column. -/
theorem three (y : S80x204x6144.Idx) : y = ix3 (y 0 : Fin 80) (y 1 : Fin 204) (y 2 : Fin 6144) :=
  funext fun a => match a with | ⟨0, _⟩ => rfl | ⟨1, _⟩ => rfl | ⟨2, _⟩ => rfl

/-- What the call writes back is the whole result. -/
theorem flushed_eq (c : Dev nD) (t : Fin cfg0.N) :
    (dats m 0 c).flushed 8 t = ((cfg0.win 8).blk t).view.read (Elt Ideal) (res m c) := by
  rw [Value.flushed8]
  refine funext fun (y : S80x204x6144.Idx) => ?_
  refine Eq.trans ?_ (View.read_apply _ _).symm
  show (out0_8 (iblk m c 0 t) (iblk m c 1 t) (iblk m c 2 t) (iblk m c 3 t) (iblk m c 4 t) (iblk m c 5 t) (iblk m c 6 t)
    (iblk m c 7 t) : Vec Ideal S80x204x6144 .bf16) y = res m c _
  rw [out_whole]
  refine ((congrArg _ (three y)).trans (value (reads m c t (y 0)) (y 1) (y 2))).trans ?_
  show res m c y = res m c _
  exact congrArg (res m c) (origin (S := S80x204x6144) y _ fun a => rfl).symm

/-- The one block covers the result. -/
theorem cover (i : S80x204x6144.Idx) (t : Fin cfg0.N) : i ∈ ((cfg0.win 8).blk t).view.set := by
  have hs : ((cfg0.win 8).blk t).view.set = ((cfg0.win 8).rect t).set := View.set_slice_whole main_v12 _
  refine hs.symm ▸ (Rect.mem_set_unit.mpr fun a => ?_)
  have b : (i a : ℕ) < S80x204x6144.size a := (i a).isLt
  show 0 * S80x204x6144.size a ≤ (i a : ℕ) ∧ (i a : ℕ) < 0 * S80x204x6144.size a + S80x204x6144.size a
  rw [Nat.zero_mul]
  omega

/-- The result array after the run. -/
theorem final (c : Dev nD) : (dats m 0 c).arrAt 8 cfg0.N = res m c :=
  (dats m 0 c).arrAt_eq_of_cover 8 (res m c) (fun t _ => flushed_eq m c t) fun i =>
    ⟨⟨0, by decide⟩, by decide +kernel, cover i _⟩

/-- The run of the reference: the result array is the stated one, the arguments are unchanged. -/
theorem run : θ_run defs (onTc (τ := τ) (main (F := Ideal))) ⟨m, fun _ => 0, ρ⟩ fun r => ∀ c : Dev nD,
      r.2.mem (c.tc.loc main_v12) = res m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun _ h c => ⟨(h c).1.trans (final m c), (h c).2⟩) (Value.run_blocks m ρ)

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import proofs.«01_k».proof.Proof.RefArray
public import Idealize.ShloMosaic.Adequacy
public import Idealize.ShloMosaic.Init

@[expose] public section

noncomputable section

namespace Cert.Proof

open Idealize.ShloMosaic Idealize.SL.Sem Cert.Kernel

/-- From memories that agree on the arguments, the ideal kernel and the reference end with the same result array:
    each ends with `Spec.result` of the arguments. -/
theorem algebraic : Cert.algebraic_KernelIdeal_ReferenceIdeal := fun m ρ m' ρ' _ hag =>
  ⟨fun c => Cert.KernelIdeal.Step.res m c, Cert.KernelIdeal.Step.run m ρ trivial,
    (θ_run _ _ _).mono (fun _ h c => ⟨(h c).1.trans (by
      obtain ⟨h0, h1, h2, h3, h4, h5, h6, h7⟩ := hag c
      unfold Cert.ReferenceIdeal.RefValue.res Cert.KernelIdeal.Step.res
      rw [h0, h1, h2, h3, h4, h5, h6, h7]
      try rfl), (h c).2⟩)
      (Cert.ReferenceIdeal.RefValue.run m' ρ')⟩

/-- Every claim about the kernel, its ideal program and the reference. -/
theorem claim : Cert.Claim :=
  ⟨Cert.Kernel.Gen.facts, Cert.KernelIdeal.Gen.facts, Cert.ReferenceIdeal.Gen.facts,
    fun m ρ _ => Cert.Kernel.Gen.frame m ρ trivial, fun m ρ _ => Cert.KernelIdeal.Gen.frame m ρ trivial,
    fun m ρ _ => Cert.ReferenceIdeal.Gen.frame m ρ, trivial, algebraic⟩

end Cert.Proof

end
